-- ==== Defs.lean ====
def Pre_KernelIdeal [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_KernelIdeal [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def algebraic_KernelIdeal_ReferenceIdeal [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernelIdeal : Cert.KernelIdeal.Facts) (hReferenceIdeal : Cert.ReferenceIdeal.Facts) (hPre_finite_logits : Cert.Pre_finite_logits.Facts),
    quiescent_KernelIdeal (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ algebraic_KernelIdeal_ReferenceIdeal (hKernelIdeal := hKernelIdeal) (hReferenceIdeal := hReferenceIdeal) (hPre_finite_logits := hPre_finite_logits)
-- ==== Pre_finite_logits.lean ====
abbrev S2000000x3 : Shape := ⟨2, ![2000000, 3]⟩
abbrev S2000000 : Shape := ⟨1, ![2000000]⟩
abbrev S_ : Shape := ⟨0, ![]⟩

class Facts : Prop where
  bcast_S_S2000000x3 : S_.BroadcastsInDim S2000000x3 (![] : Fin 0 → Fin S2000000x3.rank)
  reducesTo_S2000000x3_S_d0_1 : S2000000x3.ReducesTo [0, 1] S_
  h_S_ : 0 < S_.numel

variable [Facts]

def fn {F : FTy → Type} [FloatOps F] (main_arg0 : FVec F S2000000x3 .f32) (main_arg1 : IVec S2000000 32) : IVec S_ 1 :=
  let main_v0 : FVec F S2000000x3 .f32 := Host.absf main_arg0
  let main_cst : FVec F S_ .f32 := constant S_ .f32 0x7F800000#32
  let main_v1 : FVec F S2000000x3 .f32 := broadcastInDim S2000000x3 ![] bcast_S_S2000000x3 main_cst
  let main_v2 : IVec S2000000x3 1 := cmpf .olt main_v0 main_v1
  let main_c : IVec S_ 1 := constantI S_ 1 1#1
  let main_v3 : IVec S_ 1 := (fun x v => Host.reduce IntOp.andi x v reducesTo_S2000000x3_S_d0_1 h_S_) main_v2 main_c
  main_v3
-- ==== KernelIdeal.lean ====
abbrev S2000000x3 : Shape := ⟨2, ![2000000, 3]⟩
abbrev S2000000 : Shape := ⟨1, ![2000000]⟩
abbrev S_ : Shape := ⟨0, ![]⟩
abbrev S15 : Shape := ⟨1, ![15]⟩
abbrev S1 : Shape := ⟨1, ![1]⟩
abbrev S16 : Shape := ⟨1, ![16]⟩
abbrev S6000000 : Shape := ⟨1, ![6000000]⟩
abbrev S32x720 : Shape := ⟨2, ![32, 720]⟩
abbrev S6000 : Shape := ⟨1, ![6000]⟩
abbrev S2000 : Shape := ⟨1, ![2000]⟩
abbrev S720 : Shape := ⟨1, ![720]⟩
abbrev S1x720 : Shape := ⟨2, ![1, 720]⟩
abbrev S32x3x15x16 : Shape := ⟨4, ![32, 3, 15, 16]⟩
abbrev S3x15 : Shape := ⟨2, ![3, 15]⟩
abbrev S1x15 : Shape := ⟨2, ![1, 15]⟩

abbrev nBuf : Table → Nat
  | .hbm => 56
  | .local .scVector .vmem => 4
  | _ => 0

abbrev bufTy : (tb : Table) → Fin (nBuf tb) → BufTy
  | .hbm, ⟨0, _⟩ => ⟨S2000000x3, .f32⟩
  | .hbm, ⟨1, _⟩ => ⟨S2000000, .i32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S15, .f32⟩
  | .hbm, ⟨10, _⟩ => ⟨S_, .f32⟩
  | .hbm, ⟨11, _⟩ => ⟨S15, .f32⟩
  | .hbm, ⟨12, _⟩ => ⟨S15, .f32⟩
  | .hbm, ⟨13, _⟩ => ⟨S1, .f32⟩
  | .hbm, ⟨14, _⟩ => ⟨S_, .f32⟩
  | .hbm, ⟨15, _⟩ => ⟨S15, .f32⟩
  | .hbm, ⟨16, _⟩ => ⟨S15, .f32⟩
  | .hbm, ⟨17, _⟩ => ⟨S15, .f32⟩
  | .hbm, ⟨18, _⟩ => ⟨S15, .f32⟩
  | .hbm, ⟨19, _⟩ => ⟨S1, .f32⟩
  | .hbm, ⟨20, _⟩ => ⟨S15, .f32⟩
  | .hbm, ⟨21, _⟩ => ⟨S15, .f32⟩
  | .hbm, ⟨22, _⟩ => ⟨S15, .f32⟩
  | .hbm, ⟨23, _⟩ => ⟨S1, .f32⟩
  | .hbm, ⟨24, _⟩ => ⟨S16, .f32⟩
  | .hbm, ⟨25, _⟩ => ⟨S6000000, .f32⟩
  | .hbm, ⟨26, _⟩ => ⟨S32x720, .f32⟩
  | .hbm, ⟨27, _⟩ => ⟨S32x3x15x16, .f32⟩
  | .hbm, ⟨28, _⟩ => ⟨S_, .f32⟩
  | .hbm, ⟨29, _⟩ => ⟨S3x15, .f32⟩
  | .hbm, ⟨30, _⟩ => ⟨S1x15, .f32⟩
  | .hbm, ⟨31, _⟩ => ⟨S15, .f32⟩
  | .hbm, ⟨32, _⟩ => ⟨S1x15, .f32⟩
  | .hbm, ⟨33, _⟩ => ⟨S15, .f32⟩
  | .hbm, ⟨34, _⟩ => ⟨S1x15, .f32⟩
  | .hbm, ⟨35, _⟩ => ⟨S15, .f32⟩
  | .hbm, ⟨36, _⟩ => ⟨S_, .f32⟩
  | .hbm, ⟨37, _⟩ => ⟨S15, .f32⟩
  | .hbm, ⟨38, _⟩ => ⟨S15, .f32⟩
  | .hbm, ⟨39, _⟩ => ⟨S_, .f32⟩
  | .hbm, ⟨40, _⟩ => ⟨S15, .f32⟩
  | .hbm, ⟨41, _⟩ => ⟨S15, .f32⟩
  | .hbm, ⟨42, _⟩ => ⟨S15, .f32⟩
  | .hbm, ⟨43, _⟩ => ⟨S15, .f32⟩
  | .hbm, ⟨44, _⟩ => ⟨S15, .f32⟩
  | .hbm, ⟨45, _⟩ => ⟨S15, .f32⟩
  | .hbm, ⟨46, _⟩ => ⟨S15, .f32⟩
  | .hbm, ⟨47, _⟩ => ⟨S_, .f32⟩
  | .hbm, ⟨48, _⟩ => ⟨S15, .f32⟩
  | .hbm, ⟨49, _⟩ => ⟨S15, .i1⟩
  | .hbm, ⟨50, _⟩ => ⟨S_, .f32⟩
  | .hbm, ⟨51, _⟩ => ⟨S_, .f32⟩
  | .hbm, ⟨52, _⟩ => ⟨S15, .f32⟩
  | .hbm, ⟨53, _⟩ => ⟨S15, .f32⟩
  | .hbm, ⟨54, _⟩ => ⟨S_, .f32⟩
  | .hbm, ⟨55, _⟩ => ⟨S_, .f32⟩
  | .local .scVector .vmem, ⟨0, _⟩ => ⟨S6000, .f32⟩
  | .local .scVector .vmem, ⟨1, _⟩ => ⟨S2000, .i32⟩
  | .local .scVector .vmem, ⟨2, _⟩ => ⟨S16, .f32⟩
  | .local .scVector .vmem, ⟨3, _⟩ => ⟨S720, .f32⟩
  | _, _ => ⟨S2000000x3, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_cst : Ref sig .tc := ⟨.hbm, 7, rfl⟩
abbrev main_call0_v3 : Ref sig .tc := ⟨.hbm, 8, rfl⟩
abbrev main_call0_v4 : Ref sig .tc := ⟨.hbm, 9, rfl⟩
abbrev main_call0_cst_0 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_cst_1 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_v15 : Ref sig .tc := ⟨.hbm, 22, rfl⟩
abbrev main_call0_v16 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_cst_1 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst_2 : Ref sig .tc := ⟨.hbm, 36, rfl⟩
abbrev main_v11 : Ref sig .tc := ⟨.hbm, 37, rfl⟩
abbrev main_v12 : Ref sig .tc := ⟨.hbm, 38, rfl⟩
abbrev main_cst_3 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_cst_4 : Ref sig .tc := ⟨.hbm, 47, rfl⟩
abbrev main_v20 : Ref sig .tc := ⟨.hbm, 48, rfl⟩
abbrev main_v21 : Ref sig .tc := ⟨.hbm, 49, rfl⟩
abbrev main_cst_5 : Ref sig .tc := ⟨.hbm, 50, rfl⟩
abbrev main_call1_v0 : Ref sig .tc := ⟨.hbm, 51, rfl⟩
abbrev main_call1_v1 : Ref sig .tc := ⟨.hbm, 52, rfl⟩
abbrev main_v22 : Ref sig .tc := ⟨.hbm, 53, rfl⟩
abbrev main_cst_6 : Ref sig .tc := ⟨.hbm, 54, rfl⟩
abbrev main_v23 : Ref sig .tc := ⟨.hbm, 55, rfl⟩
abbrev main_v1_scv : Ref sig .scVector := ⟨.hbm, 25, rfl⟩
abbrev main_arg1_scv : Ref sig .scVector := ⟨.hbm, 1, rfl⟩
abbrev main_v0_scv : Ref sig .scVector := ⟨.hbm, 24, rfl⟩
abbrev main_v2_scv : Ref sig .scVector := ⟨.hbm, 26, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c32_i32 : BitVec 32 := 32#32
  let v52 : BitVec 32 := Scalar.addi c0_i32_1 c32_i32
  let c1_i32 : BitVec 32 := 1#32
  ⟨c0_i32_1, v52, c1_i32⟩
def k0_cond1 (i : grid0.Coords) (k0_t1 : Fin k0_t1_loop.trips) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3 : BitVec 32 := 32#32
  let c0_i32_1 : BitVec 32 := 0#32
  let c1_i32 : BitVec 32 := 1#32
  let arg10 : BitVec 32 := Scf.iv c0_i32_1 c1_i32 k0_t1
  let v54 : BitVec 32 := Scalar.muli c32_i32_3 arg10
  let v55 : BitVec 32 := Scalar.addi v1 v54
  let c1000_i32 : BitVec 32 := 1000#32
  let v56 : BitVec 1 := Scalar.cmpi .slt v55 c1000_i32
  let v57 : BitVec 32 := Scalar.extui v56
  let c0_i32_4 : BitVec 32 := 0#32
  let v58 : BitVec 1 := Scalar.cmpi .ne v57 c0_i32_4
  v58

def k0_mult1 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3 : BitVec 32 := 32#32
  let c0_i32_1 : BitVec 32 := 0#32
  let c1_i32 : BitVec 32 := 1#32
  let arg10 : BitVec 32 := Scf.iv c0_i32_1 c1_i32 k0_t1
  let v54 : BitVec 32 := Scalar.muli c32_i32_3 arg10
  let v55 : BitVec 32 := Scalar.addi v1 v54
  let c6000_i32 : BitVec 32 := 6000#32
  let v59 : BitVec 32 := Scalar.muli v55 c6000_i32
  v59
def k0_mult2 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3 : BitVec 32 := 32#32
  let c0_i32_1 : BitVec 32 := 0#32
  let c1_i32 : BitVec 32 := 1#32
  let arg10 : BitVec 32 := Scf.iv c0_i32_1 c1_i32 k0_t1
  let v54 : BitVec 32 := Scalar.muli c32_i32_3 arg10
  let v55 : BitVec 32 := Scalar.addi v1 v54
  let c2000_i32 : BitVec 32 := 2000#32
  let v61 : BitVec 32 := Scalar.muli v55 c2000_i32
  v61
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3 : BitVec 32 := 32#32
  let c0_i32_1 : BitVec 32 := 0#32
  let c1_i32 : BitVec 32 := 1#32
  let arg10 : BitVec 32 := Scf.iv c0_i32_1 c1_i32 k0_t1
  let v54 : BitVec 32 := Scalar.muli c32_i32_3 arg10
  let v55 : BitVec 32 := Scalar.addi v1 v54
  let c6000_i32 : BitVec 32 := 6000#32
  let v59 : BitVec 32 := Scalar.muli v55 c6000_i32
  let v60 : BitVec 32 := v59
  ![v60.toNat]
def k0_off2 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_3 : BitVec 32 := 32#32
  let c0_i32_1 : BitVec 32 := 0#32
  let c1_i32 : BitVec 32 := 1#32
  let arg10 : BitVec 32 := Scf.iv c0_i32_1 c1_i32 k0_t1
  let v54 : BitVec 32 := Scalar.muli c32_i32_3 arg10
  let v55 : BitVec 32 := Scalar.addi v1 v54
  let c2000_i32 : BitVec 32 := 2000#32
  let v61 : BitVec 32 := Scalar.muli v55 c2000_i32
  let v62 : BitVec 32 := v61
  ![v62.toNat]
@[reducible] def k0_t2_loop : Scf.Loop 32 :=
  let c0_i32_7 : BitVec 32 := 0#32
  let c125_i32 : BitVec 32 := 125#32
  let v63 : BitVec 32 := Scalar.addi c0_i32_7 c125_i32
  let c1_i32_8 : BitVec 32 := 1#32
  ⟨c0_i32_7, v63, c1_i32_8⟩

def k0_chk1 (i : grid0.Coords) (k0_t1 : Fin k0_t1_loop.trips) (v67 : IVec S16 32) : Prop :=
  (∀ (k0_h1 : k0_cond1 i k0_t1 = 1#1), ∀ a x, ((![v67] : Fin 1 → IVec S16 32) a x).toNat < S6000.size a)
theorem k0_idx1_inb : ∀ (i : grid0.Coords) (k0_t1 : Fin k0_t1_loop.trips) (v67 : IVec S16 32) (k0_hw1 : k0_chk1 i k0_t1 v67), ∀ (k0_h1 : k0_cond1 i k0_t1 = 1#1), ∀ a x, ((![v67] : Fin 1 → IVec S16 32) a x).toNat < S6000.size a := fun i k0_t1 v67 k0_hw1 k0_h1 => k0_hw1 k0_h1

def k0_chk2 (i : grid0.Coords) (k0_t1 : Fin k0_t1_loop.trips) (v70 : IVec S16 32) : Prop :=
  (∀ (k0_h1 : k0_cond1 i k0_t1 = 1#1), ∀ a x, ((![v70] : Fin 1 → IVec S16 32) a x).toNat < S6000.size a)
theorem k0_idx2_inb : ∀ (i : grid0.Coords) (k0_t1 : Fin k0_t1_loop.trips) (v70 : IVec S16 32) (k0_hw2 : k0_chk2 i k0_t1 v70), ∀ (k0_h1 : k0_cond1 i k0_t1 = 1#1), ∀ a x, ((![v70] : Fin 1 → IVec S16 32) a x).toNat < S6000.size a := fun i k0_t1 v70 k0_hw2 k0_h1 => k0_hw2 k0_h1

def k0_chk3 (i : grid0.Coords) (k0_t1 : Fin k0_t1_loop.trips) (v73 : IVec S16 32) : Prop :=
  (∀ (k0_h1 : k0_cond1 i k0_t1 = 1#1), ∀ a x, ((![v73] : Fin 1 → IVec S16 32) a x).toNat < S6000.size a)
theorem k0_idx3_inb : ∀ (i : grid0.Coords) (k0_t1 : Fin k0_t1_loop.trips) (v73 : IVec S16 32) (k0_hw3 : k0_chk3 i k0_t1 v73), ∀ (k0_h1 : k0_cond1 i k0_t1 = 1#1), ∀ a x, ((![v73] : Fin 1 → IVec S16 32) a x).toNat < S6000.size a := fun i k0_t1 v73 k0_hw3 k0_h1 => k0_hw3 k0_h1
def k0_off3 (k0_t2 : Fin k0_t2_loop.trips) : Fin 1 → Nat :=
  let c0_i32_7 : BitVec 32 := 0#32
  let c1_i32_8 : BitVec 32 := 1#32
  let arg12 : BitVec 32 := Scf.iv c0_i32_7 c1_i32_8 k0_t2
  let c16_i32 : BitVec 32 := 16#32
  let v75 : BitVec 32 := Scalar.muli arg12 c16_i32
  let v76 : Index := Scalar.indexCast v75
  ![v76.toNat]

def k0_chk4 (i : grid0.Coords) (k0_t1 : Fin k0_t1_loop.trips) (v105 : IVec S16 32) : Prop :=
  (∀ (k0_h1 : k0_cond1 i k0_t1 = 1#1), ∀ a x, ((![v105] : Fin 1 → IVec S16 32) a x).toNat < S16.size a)
theorem k0_idx4_inb : ∀ (i : grid0.Coords) (k0_t1 : Fin k0_t1_loop.trips) (v105 : IVec S16 32) (k0_hw4 : k0_chk4 i k0_t1 v105), ∀ (k0_h1 : k0_cond1 i k0_t1 = 1#1), ∀ a x, ((![v105] : Fin 1 → IVec S16 32) a x).toNat < S16.size a := fun i k0_t1 v105 k0_hw4 k0_h1 => k0_hw4 k0_h1

def k0_chk5 (i : grid0.Coords) (k0_t1 : Fin k0_t1_loop.trips) (v108 : IVec S16 32) : Prop :=
  (∀ (k0_h1 : k0_cond1 i k0_t1 = 1#1), ∀ a x, ((![v108] : Fin 1 → IVec S16 32) a x).toNat < S16.size a)
theorem k0_idx5_inb : ∀ (i : grid0.Coords) (k0_t1 : Fin k0_t1_loop.trips) (v108 : IVec S16 32) (k0_hw5 : k0_chk5 i k0_t1 v108), ∀ (k0_h1 : k0_cond1 i k0_t1 = 1#1), ∀ a x, ((![v108] : Fin 1 → IVec S16 32) a x).toNat < S16.size a := fun i k0_t1 v108 k0_hw5 k0_h1 => k0_hw5 k0_h1

def k0_chk6 (i : grid0.Coords) (k0_t1 : Fin k0_t1_loop.trips) (v122 : IVec S16 32) : Prop :=
  (∀ (k0_h1 : k0_cond1 i k0_t1 = 1#1), ∀ a x, ((![v122] : Fin 1 → IVec S16 32) a x).toNat < S720.size a)
theorem k0_idx6_inb : ∀ (i : grid0.Coords) (k0_t1 : Fin k0_t1_loop.trips) (v122 : IVec S16 32) (k0_hw6 : k0_chk6 i k0_t1 v122), ∀ (k0_h1 : k0_cond1 i k0_t1 = 1#1), ∀ a x, ((![v122] : Fin 1 → IVec S16 32) a x).toNat < S720.size a := fun i k0_t1 v122 k0_hw6 k0_h1 => k0_hw6 k0_h1

def k0_chk7 (i : grid0.Coords) (k0_t1 : Fin k0_t1_loop.trips) (v124 : IVec S16 32) : Prop :=
  (∀ (k0_h1 : k0_cond1 i k0_t1 = 1#1), ∀ a x, ((![v124] : Fin 1 → IVec S16 32) a x).toNat < S720.size a)
theorem k0_idx7_inb : ∀ (i : grid0.Coords) (k0_t1 : Fin k0_t1_loop.trips) (v124 : IVec S16 32) (k0_hw7 : k0_chk7 i k0_t1 v124), ∀ (k0_h1 : k0_cond1 i k0_t1 = 1#1), ∀ a x, ((![v124] : Fin 1 → IVec S16 32) a x).toNat < S720.size a := fun i k0_t1 v124 k0_hw7 k0_h1 => k0_hw7 k0_h1

def k0_chk8 (i : grid0.Coords) (k0_t1 : Fin k0_t1_loop.trips) (v126 : IVec S16 32) : Prop :=
  (∀ (k0_h1 : k0_cond1 i k0_t1 = 1#1), ∀ a x, ((![v126] : Fin 1 → IVec S16 32) a x).toNat < S720.size a)
theorem k0_idx8_inb : ∀ (i : grid0.Coords) (k0_t1 : Fin k0_t1_loop.trips) (v126 : IVec S16 32) (k0_hw8 : k0_chk8 i k0_t1 v126), ∀ (k0_h1 : k0_cond1 i k0_t1 = 1#1), ∀ a x, ((![v126] : Fin 1 → IVec S16 32) a x).toNat < S720.size a := fun i k0_t1 v126 k0_hw8 k0_h1 => k0_hw8 k0_h1
def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3_r3 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2000000x3 : Shape := ⟨2, ![2000000, 3]⟩
abbrev S2000000 : Shape := ⟨1, ![2000000]⟩
abbrev S_ : Shape := ⟨0, ![]⟩
abbrev S2000000x1 : Shape := ⟨2, ![2000000, 1]⟩
abbrev S15 : Shape := ⟨1, ![15]⟩
abbrev S1 : Shape := ⟨1, ![1]⟩
abbrev S16 : Shape := ⟨1, ![16]⟩
abbrev S1x2000000 : Shape := ⟨2, ![1, 2000000]⟩
abbrev S15x1 : Shape := ⟨2, ![15, 1]⟩
abbrev S15x2000000 : Shape := ⟨2, ![15, 2000000]⟩

abbrev nBuf : Space → Nat
  | .hbm => 100
  | .vmem => 0
  | .smem => 0
  | _ => 0

abbrev bufTy : (tb : Table) → Fin (tcTables nBuf tb) → BufTy
  | .hbm, ⟨0, _⟩ => ⟨S2000000x3, .f32⟩
  | .hbm, ⟨1, _⟩ => ⟨S2000000, .i32⟩
  | .hbm, ⟨2, _⟩ => ⟨S_, .f32⟩
  | .hbm, ⟨3, _⟩ => ⟨S2000000, .f32⟩
  | .hbm, ⟨4, _⟩ => ⟨S_, .f32⟩
  | .hbm, ⟨5, _⟩ => ⟨S2000000, .f32⟩
  | .hbm, ⟨6, _⟩ => ⟨S2000000, .f32⟩
  | .hbm, ⟨7, _⟩ => ⟨S2000000x1, .f32⟩
  | .hbm, ⟨8, _⟩ => ⟨S2000000x3, .f32⟩
  | .hbm, ⟨9, _⟩ => ⟨S2000000x3, .f32⟩
  | .hbm, ⟨10, _⟩ => ⟨S2000000x3, .f32⟩
  | .hbm, ⟨11, _⟩ => ⟨S_, .f32⟩
  | .hbm, ⟨12, _⟩ => ⟨S2000000, .f32⟩
  | .hbm, ⟨13, _⟩ => ⟨S2000000x1, .f32⟩
  | .hbm, ⟨14, _⟩ => ⟨S2000000x3, .f32⟩
  | .hbm, ⟨15, _⟩ => ⟨S2000000x3, .f32⟩
  | .hbm, ⟨16, _⟩ => ⟨S_, .f32⟩
  | .hbm, ⟨17, _⟩ => ⟨S2000000, .f32⟩
  | .hbm, ⟨18, _⟩ => ⟨S2000000x3, .i32⟩
  | .hbm, ⟨19, _⟩ => ⟨S_, .f32⟩
  | .hbm, ⟨20, _⟩ => ⟨S_, .i32⟩
  | .hbm, ⟨21, _⟩ => ⟨S2000000, .f32⟩
  | .hbm, ⟨22, _⟩ => ⟨S2000000, .i32⟩
  | .hbm, ⟨23, _⟩ => ⟨S2000000, .i1⟩
  | .hbm, ⟨24, _⟩ => ⟨S2000000, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S15, .f32⟩
  | .hbm, ⟨33, _⟩ => ⟨S_, .f32⟩
  | .hbm, ⟨34, _⟩ => ⟨S15, .f32⟩
  | .hbm, ⟨35, _⟩ => ⟨S15, .f32⟩
  | .hbm, ⟨36, _⟩ => ⟨S1, .f32⟩
  | .hbm, ⟨37, _⟩ => ⟨S_, .f32⟩
  | .hbm, ⟨38, _⟩ => ⟨S15, .f32⟩
  | .hbm, ⟨39, _⟩ => ⟨S15, .f32⟩
  | .hbm, ⟨40, _⟩ => ⟨S15, .f32⟩
  | .hbm, ⟨41, _⟩ => ⟨S15, .f32⟩
  | .hbm, ⟨42, _⟩ => ⟨S1, .f32⟩
  | .hbm, ⟨43, _⟩ => ⟨S15, .f32⟩
  | .hbm, ⟨44, _⟩ => ⟨S15, .f32⟩
  | .hbm, ⟨45, _⟩ => ⟨S15, .f32⟩
  | .hbm, ⟨46, _⟩ => ⟨S1, .f32⟩
  | .hbm, ⟨47, _⟩ => ⟨S16, .f32⟩
  | .hbm, ⟨48, _⟩ => ⟨S15, .f32⟩
  | .hbm, ⟨49, _⟩ => ⟨S15, .f32⟩
  | .hbm, ⟨50, _⟩ => ⟨S1x2000000, .f32⟩
  | .hbm, ⟨51, _⟩ => ⟨S15x1, .f32⟩
  | .hbm, ⟨52, _⟩ => ⟨S15x2000000, .f32⟩
  | .hbm, ⟨53, _⟩ => ⟨S15x2000000, .f32⟩
  | .hbm, ⟨54, _⟩ => ⟨S15x2000000, .i1⟩
  | .hbm, ⟨55, _⟩ => ⟨S1x2000000, .f32⟩
  | .hbm, ⟨56, _⟩ => ⟨S15x1, .f32⟩
  | .hbm, ⟨57, _⟩ => ⟨S15x2000000, .f32⟩
  | .hbm, ⟨58, _⟩ => ⟨S15x2000000, .f32⟩
  | .hbm, ⟨59, _⟩ => ⟨S15x2000000, .i1⟩
  | .hbm, ⟨60, _⟩ => ⟨S15x2000000, .i1⟩
  | .hbm, ⟨61, _⟩ => ⟨S15x2000000, .f32⟩
  | .hbm, ⟨62, _⟩ => ⟨S_, .f32⟩
  | .hbm, ⟨63, _⟩ => ⟨S15, .f32⟩
  | .hbm, ⟨64, _⟩ => ⟨S_, .f32⟩
  | .hbm, ⟨65, _⟩ => ⟨S15, .f32⟩
  | .hbm, ⟨66, _⟩ => ⟨S15, .f32⟩
  | .hbm, ⟨67, _⟩ => ⟨S_, .f32⟩
  | .hbm, ⟨68, _⟩ => ⟨S15, .f32⟩
  | .hbm, ⟨69, _⟩ => ⟨S15, .f32⟩
  | .hbm, ⟨70, _⟩ => ⟨S_, .f32⟩
  | .hbm, ⟨71, _⟩ => ⟨S_, .f32⟩
  | .hbm, ⟨72, _⟩ => ⟨S2000000, .f32⟩
  | .hbm, ⟨73, _⟩ => ⟨S15x2000000, .f32⟩
  | .hbm, ⟨74, _⟩ => ⟨S15x2000000, .f32⟩
  | .hbm, ⟨75, _⟩ => ⟨S15x2000000, .f32⟩
  | .hbm, ⟨76, _⟩ => ⟨S_, .f32⟩
  | .hbm, ⟨77, _⟩ => ⟨S15, .f32⟩
  | .hbm, ⟨78, _⟩ => ⟨S15, .f32⟩
  | .hbm, ⟨79, _⟩ => ⟨S_, .f32⟩
  | .hbm, ⟨80, _⟩ => ⟨S_, .f32⟩
  | .hbm, ⟨81, _⟩ => ⟨S2000000, .f32⟩
  | .hbm, ⟨82, _⟩ => ⟨S15x2000000, .f32⟩
  | .hbm, ⟨83, _⟩ => ⟨S15x2000000, .f32⟩
  | .hbm, ⟨84, _⟩ => ⟨S15x2000000, .f32⟩
  | .hbm, ⟨85, _⟩ => ⟨S_, .f32⟩
  | .hbm, ⟨86, _⟩ => ⟨S15, .f32⟩
  | .hbm, ⟨87, _⟩ => ⟨S15, .f32⟩
  | .hbm, ⟨88, _⟩ => ⟨S15, .f32⟩
  | .hbm, ⟨89, _⟩ => ⟨S15, .f32⟩
  | .hbm, ⟨90, _⟩ => ⟨S15, .f32⟩
  | .hbm, ⟨91, _⟩ => ⟨S_, .f32⟩
  | .hbm, ⟨92, _⟩ => ⟨S15, .f32⟩
  | .hbm, ⟨93, _⟩ => ⟨S15, .i1⟩
  | .hbm, ⟨94, _⟩ => ⟨S_, .f32⟩
  | .hbm, ⟨95, _⟩ => ⟨S_, .f32⟩
  | .hbm, ⟨96, _⟩ => ⟨S15, .f32⟩
  | .hbm, ⟨97, _⟩ => ⟨S15, .f32⟩
  | .hbm, ⟨98, _⟩ => ⟨S_, .f32⟩
  | .hbm, ⟨99, _⟩ => ⟨S_, .f32⟩
  | _, _ => ⟨S2000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_call0_v0 : Ref sig .tc := ⟨.hbm, 18, rfl⟩
abbrev main_call0_cst : Ref sig .tc := ⟨.hbm, 19, rfl⟩
abbrev main_call0_c : Ref sig .tc := ⟨.hbm, 20, rfl⟩
abbrev main_call0_v1_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_cst_4 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_cst : Ref sig .tc := ⟨.hbm, 30, rfl⟩
abbrev main_call1_v3 : Ref sig .tc := ⟨.hbm, 31, rfl⟩
abbrev main_call1_v4 : Ref sig .tc := ⟨.hbm, 32, rfl⟩
abbrev main_call1_cst_0 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_cst_1 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_call1_v15 : Ref sig .tc := ⟨.hbm, 45, rfl⟩
abbrev main_call1_v16 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_cst_5 : Ref sig .tc := ⟨.hbm, 62, rfl⟩
abbrev main_v30 : Ref sig .tc := ⟨.hbm, 63, rfl⟩
abbrev main_cst_6 : Ref sig .tc := ⟨.hbm, 64, rfl⟩
abbrev main_v31 : Ref sig .tc := ⟨.hbm, 65, rfl⟩
abbrev main_v32 : Ref sig .tc := ⟨.hbm, 66, rfl⟩
abbrev main_cst_7 : Ref sig .tc := ⟨.hbm, 67, rfl⟩
abbrev main_v33 : Ref sig .tc := ⟨.hbm, 68, rfl⟩
abbrev main_v34 : Ref sig .tc := ⟨.hbm, 69, rfl⟩
abbrev main_cst_8 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_call2_v3 : Ref sig .tc := ⟨.hbm, 74, rfl⟩
abbrev main_v35 : Ref sig .tc := ⟨.hbm, 75, rfl⟩
abbrev main_cst_9 : Ref sig .tc := ⟨.hbm, 76, rfl⟩
abbrev main_v36 : Ref sig .tc := ⟨.hbm, 77, rfl⟩
abbrev main_v37 : Ref sig .tc := ⟨.hbm, 78, rfl⟩
abbrev main_cst_10 : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_call3_v3 : Ref sig .tc := ⟨.hbm, 83, rfl⟩
abbrev main_v38 : Ref sig .tc := ⟨.hbm, 84, rfl⟩
abbrev main_cst_11 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_cst_12 : Ref sig .tc := ⟨.hbm, 91, rfl⟩
abbrev main_v44 : Ref sig .tc := ⟨.hbm, 92, rfl⟩
abbrev main_v45 : Ref sig .tc := ⟨.hbm, 93, rfl⟩
abbrev main_cst_13 : Ref sig .tc := ⟨.hbm, 94, rfl⟩
abbrev main_call4_v0 : Ref sig .tc := ⟨.hbm, 95, rfl⟩
abbrev main_call4_v1 : Ref sig .tc := ⟨.hbm, 96, rfl⟩
abbrev main_v46 : Ref sig .tc := ⟨.hbm, 97, rfl⟩
abbrev main_cst_14 : Ref sig .tc := ⟨.hbm, 98, rfl⟩
abbrev main_v47 : Ref sig .tc := ⟨.hbm, 99, rfl⟩

abbrev nD : Nat := 1
abbrev τ : Topo := Topo.v7x

variable {F : FTy → Type} [FloatOps F]
-- ==== Proof.Step.lean ====
/-
  What one vector subcore computes, as functions of the arrays it is given: the update of the 720 partial sums by one
  group of sixteen rows (`step`), by the 125 groups of a chunk (`groups`), and by all the chunks of a subcore (`trips`, `tileAcc`).
-/
module

public import proofs.«01_k».proof.Proof.Gen.KernelIdeal.Skeleton
public import Idealize.ShloMosaic.Lib.SparseCore.Ops

@[expose] public section

noncomputable section

namespace Cert.Proof.Step

open Cert.KernelIdeal Cert.KernelIdeal.Gen
open Idealize.ShloMosaic

variable {F : FTy → Type}

/-- Every lane of `v` names an element of an array of `d 0` elements. -/
abbrev InR (d : Fin 1 → ℕ) (v : IVec S16 32) : Prop :=
  ∀ (a : Fin 1) (x : S16.Idx), ((![v] : Fin 1 → IVec S16 32) a x).toNat < d a

/-- Indices below the size are in range. -/
theorem InR.mk {d : Fin 1 → ℕ} {v : IVec S16 32} (h : ∀ x, (v x).toNat < d 0) : InR d v := by
  intro a x
  obtain rfl : a = 0 := Subsingleton.elim _ _
  exact h x

variable [FloatOps F]

/-- The lanes of `f` that `v` names (zeros if one of them names none). -/
def gat {d : Fin 1 → ℕ} (f : Vec F ⟨1, d⟩ .f32) (v : IVec S16 32) : Vec F S16 .f32 :=
  open Classical in if h : InR d v then loadIdx f ![v] h else k0_pay13

/-- A gather in range is `gat`. -/
theorem gat_of {d : Fin 1 → ℕ} (f : Vec F ⟨1, d⟩ .f32) (v : IVec S16 32) (h : InR d v) : loadIdx f ![v] h = gat f v := by
  unfold gat; rw [dif_pos h]

/-- `f` with lane by lane `x` added at the elements `v` names (`f` itself if a lane names none). -/
def sct {d : Fin 1 → ℕ} (f : Vec F ⟨1, d⟩ .f32) (v : IVec S16 32) (x : Vec F S16 .f32) : Vec F ⟨1, d⟩ .f32 :=
  open Classical in if h : InR d v then storeIdx f ![v] x (fun _ => 1#1) true h else f

/-- A scatter-add in range is `sct`. -/
theorem sct_of {d : Fin 1 → ℕ} (f : Vec F ⟨1, d⟩ .f32) (v : IVec S16 32) (x : Vec F S16 .f32) (h : InR d v) :
    storeIdx f ![v] x (fun _ => 1#1) true h = sct f v x := by
  unfold sct; rw [dif_pos h]

/-! ## One group of sixteen rows -/

section Group

variable (lg : Vec F S6000 .f32) (lb : Vec F S2000 .i32) (bt : Vec F S16 .f32) (g : Fin k0_t2_loop.trips)

/-- Three times the row, within the chunk, of each lane. -/
abbrev ix0 : IVec S16 32 := k0_pay6 k0_pay1 0#32 1#32 g
/-- The three logits of each lane's row. -/
abbrev l0 : Vec F S16 .f32 := gat (d := S6000.size) lg (ix0 g)
abbrev l1 : Vec F S16 .f32 := gat (d := S6000.size) lg (k0_pay7 (ix0 g))
abbrev l2 : Vec F S16 .f32 := gat (d := S6000.size) lg (k0_pay8 (ix0 g))
/-- The labels of the group's rows. -/
def lbs : Vec F S16 .i32 := fun x => lb (fun a => ⟨16 * g.val + (x a).val, by
  have hg : g.val < 125 := g.isLt
  have hx := (x a).isLt
  obtain rfl : a = 0 := Subsingleton.elim _ _
  have h16 : S16.size 0 = 16 := rfl
  have h20 : S2000.size 0 = 2000 := rfl
  omega⟩)
/-- The confidence, the first guess of the bin, the bin's two boundaries, and the accuracy. -/
abbrev conf : FVec F S16 .f32 := k0_pay10 (l0 lg g) (l1 lg g) (l2 lg g)
/-- The first estimates of the bins. -/
abbrev bin0 : IVec S16 32 := k0_pay12 (l0 lg g) (l1 lg g) (l2 lg g)
/-- The boundaries below. -/
abbrev lo : Vec F S16 .f32 := gat (d := S16.size) bt (bin0 lg g)
/-- The boundaries above. -/
abbrev hi : Vec F S16 .f32 := gat (d := S16.size) bt (k0_pay2 (bin0 lg g) 1#32)
/-- The hits. -/
abbrev accu : FVec F S16 .f32 := k0_pay11 (l0 lg g) (l1 lg g) (l2 lg g) (lbs lb g)
/-- The element of the first 240 sums that each lane adds to. -/
abbrev slot : IVec S16 32 := k0_pay3 (conf lg g) (bin0 lg g) (lo lg bt g) (hi lg bt g)

/-- The group's effect on the sums. -/
def step (acc : Vec F S720 .f32) : Vec F S720 .f32 :=
  sct (d := S720.size) (sct (d := S720.size) (sct (d := S720.size) acc (slot lg bt g) k0_pay14)
    (k0_pay4 (slot lg bt g)) (conf lg g)) (k0_pay5 (slot lg bt g)) (accu lg lb g)

/-- Every index that the group reads the boundaries at, and every one that it adds at, is in range. -/
structure Ok : Prop where
  b0 : InR S16.size (bin0 lg g)
  b1 : InR S16.size (k0_pay2 (bin0 lg g) 1#32)
  s0 : InR S720.size (slot lg bt g)
  s1 : InR S720.size (k0_pay4 (slot lg bt g))
  s2 : InR S720.size (k0_pay5 (slot lg bt g))

end Group

/-! ## One chunk, and one subcore -/

/-- The sums after the first `n` groups of a chunk. -/
def groups (lg : Vec F S6000 .f32) (lb : Vec F S2000 .i32) (bt : Vec F S16 .f32) (acc : Vec F S720 .f32) : ℕ → Vec F S720 .f32
  | 0 => acc
  | n + 1 => if h : n < k0_t2_loop.trips then step lg lb bt ⟨n, h⟩ (groups lg lb bt acc n) else groups lg lb bt acc n

/-- One group more. -/
theorem groups_succ (lg : Vec F S6000 .f32) (lb : Vec F S2000 .i32) (bt : Vec F S16 .f32) (acc : Vec F S720 .f32)
    (k : Fin k0_t2_loop.trips) : groups lg lb bt acc (k.val + 1) = step lg lb bt k (groups lg lb bt acc k.val) := by
  rw [groups, dif_pos k.isLt]

section Tile

variable (i : grid0.Coords) (L : Vec F S6000000 .f32) (B : Vec F S2000000 .i32) (bt : Vec F S16 .f32)

/-- The chunk of logits and of labels that trip `t` of the subcore at `i` fetches. -/
def chL (t : Fin k0_t1_loop.trips) (h : k0_cond1 i t = 1#1) : Vec F S6000 .f32 :=
  fun x => L ((Rect.unit (s := S6000000) (k0_off1 i t) S6000.size (k0_off1_inb i t h)).emb x)
def chB (t : Fin k0_t1_loop.trips) (h : k0_cond1 i t = 1#1) : Vec F S2000 .i32 :=
  fun x => B ((Rect.unit (s := S2000000) (k0_off2 i t) S2000.size (k0_off2_inb i t h)).emb x)

/-- The sums after the first `n` trips of the subcore at `i`. -/
def trips : ℕ → Vec F S720 .f32
  | 0 => fun _ => Scalar.ofBits .f32 0x00000000#32
  | n + 1 =>
    if h : n < k0_t1_loop.trips then
      if hc : k0_cond1 i ⟨n, h⟩ = 1#1 then groups (chL i L ⟨n, h⟩ hc) (chB i B ⟨n, h⟩ hc) bt (trips n) k0_t2_loop.trips else trips n
    else trips n

/-- A trip whose chunk exists adds it. -/
theorem trips_succ_of (k : Fin k0_t1_loop.trips) (hc : k0_cond1 i k = 1#1) :
    trips i L B bt (k.val + 1) = groups (chL i L k hc) (chB i B k hc) bt (trips i L B bt k.val) k0_t2_loop.trips := by
  rw [trips, dif_pos k.isLt, dif_pos hc]

/-- A trip without a chunk adds nothing. -/
theorem trips_succ_not (k : Fin k0_t1_loop.trips) (hc : ¬ k0_cond1 i k = 1#1) :
    trips i L B bt (k.val + 1) = trips i L B bt k.val := by
  rw [trips, dif_pos k.isLt, dif_neg hc]

/-- The sums that the subcore at `i` ends with. -/
@[irreducible] def tileAcc : Vec F S720 .f32 := trips i L B bt k0_t1_loop.trips

/-- A subcore adds up all its trips. -/
theorem tileAcc_eq : tileAcc i L B bt = trips i L B bt k0_t1_loop.trips := by unfold tileAcc; rfl

/-- Every group of every chunk of the subcore at `i` has its indices in range. -/
def TileOk : Prop := ∀ (t : Fin k0_t1_loop.trips) (h : k0_cond1 i t = 1#1) (g : Fin k0_t2_loop.trips), Ok (chL i L t h) bt g

/-- The subcore that row `w` of the parts comes from. -/
def rowAt (w : Fin 32) : grid0.Coords :=
  fun | 0 => ⟨w.val % 2, Nat.mod_lt _ (by decide)⟩ | 1 => ⟨w.val / 2, by have := w.isLt; show w.val / 2 < 16; omega⟩ | ⟨_ + 2, h⟩ => absurd h (Nat.not_lt.2 (Nat.le_add_left _ _))

/-- The subcore whose row is `w`. -/
theorem rowAt_of (w : Fin 32) (h : w.val = 2 * (i 1).val + (i 0).val) : rowAt w = i := by
  have h0 : (i 0).val < 2 := (i 0).isLt
  funext a
  match a with
  | 0 => refine Fin.ext ?_; show w.val % 2 = _; omega
  | 1 => refine Fin.ext ?_; show w.val / 2 = _; omega

/-- The parts: row by row the sums of the 32 subcores. -/
@[irreducible] def parts : Vec F S32x720 .f32 := fun y => tileAcc (rowAt (y 0)) L B bt (fun a => ⟨(y 1).val, by
  obtain rfl : a = 0 := Subsingleton.elim _ _
  exact (y 1).isLt⟩)

/-- A subcore's row of the parts is its sums. -/
theorem parts_of (y : S32x720.Idx) (x : S720.Idx) (h0 : (y 0).val = 2 * (i 1).val + (i 0).val) (h1 : (y 1).val = (x 0).val) :
    parts L B bt y = tileAcc i L B bt x := by
  unfold parts
  rw [rowAt_of i (y 0) h0]
  congr 1; funext a
  obtain rfl : a = 0 := Subsingleton.elim _ _
  exact Fin.ext h1

end Tile

/-! ## The reads of the logits are in range, whatever the logits -/

theorem pay1_toNat (x : S16.Idx) : (k0_pay1 x).toNat = 3 * (x 0).val := by
  revert x; decide

/-- Where a lane reads its first logit. -/
theorem ix0_toNat (g : Fin k0_t2_loop.trips) (x : S16.Idx) : (ix0 g x).toNat = 48 * g.val + 3 * (x 0).val := by
  have hg : g.val < 125 := g.isLt
  have hx : (x 0).val < 16 := (x 0).isLt
  have h1 := pay1_toNat x
  unfold ix0 k0_pay6
  simp only [addi, broadcast, Scalar.muli, Scf.iv, IntOp.addi, IntOp.muli, BitVec.toNat_add, BitVec.toNat_mul, BitVec.toNat_ofNat, h1]
  omega

/-- Where it reads the second. -/
theorem ix1_toNat (g : Fin k0_t2_loop.trips) (x : S16.Idx) : (k0_pay7 (ix0 g) x).toNat = 48 * g.val + 3 * (x 0).val + 1 := by
  have hg : g.val < 125 := g.isLt
  have hx : (x 0).val < 16 := (x 0).isLt
  unfold k0_pay7
  simp only [addi, broadcast, IntOp.addi, BitVec.toNat_add, BitVec.toNat_ofNat, ix0_toNat]
  omega

/-- Where it reads the third. -/
theorem ix2_toNat (g : Fin k0_t2_loop.trips) (x : S16.Idx) : (k0_pay8 (ix0 g) x).toNat = 48 * g.val + 3 * (x 0).val + 2 := by
  have hg : g.val < 125 := g.isLt
  have hx : (x 0).val < 16 := (x 0).isLt
  unfold k0_pay8
  simp only [addi, broadcast, IntOp.addi, BitVec.toNat_add, BitVec.toNat_ofNat, ix0_toNat]
  omega

theorem size_6000 : S6000.size 0 = 6000 := rfl

/-- The first reads are in range. -/
theorem inR_ix0 (g : Fin k0_t2_loop.trips) : InR S6000.size (ix0 g) := InR.mk fun x => by
  have hg : g.val < 125 := g.isLt
  have hx : (x 0).val < 16 := (x 0).isLt
  rw [ix0_toNat, size_6000]; omega
/-- The second reads are in range. -/
theorem inR_ix1 (g : Fin k0_t2_loop.trips) : InR S6000.size (k0_pay7 (ix0 g)) := InR.mk fun x => by
  have hg : g.val < 125 := g.isLt
  have hx : (x 0).val < 16 := (x 0).isLt
  rw [ix1_toNat, size_6000]; omega
/-- The third reads are in range. -/
theorem inR_ix2 (g : Fin k0_t2_loop.trips) : InR S6000.size (k0_pay8 (ix0 g)) := InR.mk fun x => by
  have hg : g.val < 125 := g.isLt
  have hx : (x 0).val < 16 := (x 0).isLt
  rw [ix2_toNat, size_6000]; omega

end Cert.Proof.Step

end
-- ==== Proof.Tile.lean ====
/-
  The vector subcore's program: its gathers and scatter-adds as steps, one group of sixteen rows (`group_body`), one trip of its
  loop over the chunks of 2000 rows (`trip_body`), and which of its arrays and counters are its own.
-/
module

public import proofs.«01_k».proof.Proof.Step
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.Proof.Tile

open Cert.KernelIdeal Cert.KernelIdeal.Gen Cert.Proof.Step

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
/-- The call runs on 16 subcores of each core. -/
theorem nSub_zero : (K (F := F)).nSub 0 = 16 := rfl
/-- It runs on both cores. -/
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's side conditions. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays as a vector subcore addresses them -/

local notation "lV" => (Memref.whole Cert.KernelIdeal.main_v1_scv : Memref Cert.KernelIdeal.sig Kind.scVector Space.hbm Cert.KernelIdeal.S6000000 EltTy.f32)
local notation "bV" => (Memref.whole Cert.KernelIdeal.main_arg1_scv : Memref Cert.KernelIdeal.sig Kind.scVector Space.hbm Cert.KernelIdeal.S2000000 EltTy.i32)
local notation "tV" => (Memref.whole Cert.KernelIdeal.main_v0_scv : Memref Cert.KernelIdeal.sig Kind.scVector Space.hbm Cert.KernelIdeal.S16 EltTy.f32)
local notation "oV" => (Memref.whole Cert.KernelIdeal.main_v2_scv : Memref Cert.KernelIdeal.sig Kind.scVector Space.hbm Cert.KernelIdeal.S32x720 EltTy.f32)
local notation "s0" => (Memref.whole Cert.KernelIdeal.cc0_scratch0 : Memref Cert.KernelIdeal.sig Kind.scVector Space.vmem Cert.KernelIdeal.S6000 EltTy.f32)
local notation "s1" => (Memref.whole Cert.KernelIdeal.cc0_scratch1 : Memref Cert.KernelIdeal.sig Kind.scVector Space.vmem Cert.KernelIdeal.S2000 EltTy.i32)
local notation "s2" => (Memref.whole Cert.KernelIdeal.cc0_scratch2 : Memref Cert.KernelIdeal.sig Kind.scVector Space.vmem Cert.KernelIdeal.S16 EltTy.f32)
local notation "s3" => (Memref.whole Cert.KernelIdeal.cc0_scratch3 : Memref Cert.KernelIdeal.sig Kind.scVector Space.vmem Cert.KernelIdeal.S720 EltTy.f32)

variable [FloatOps F]

section Tile

variable (d : Dev nD) (i : grid0.Coords)

abbrev cV (i : grid0.Coords) : Fin τ.nSC := (i 0).castLE hcore0
abbrev jV (i : grid0.Coords) : Fin τ.nSub := (i 1).castLE hsub0
/-- The vector subcore at `i`. -/
abbrev thr : Thread nD τ := V d (cV i) (jV i)

/-! ## Gathers and scatters of the scratch arrays -/

section Ops

variable {α : Type} {q : PosShare TreeShare}

/-- A gather of the chunk's logits. -/
theorem wp_gatL {v : IVec S16 32} {h : InR S6000.size v} {hl : (s0).view.Loads}
    {k : Vec F S16 .f32 → Prog (TpuEff nD τ sig (Elt F) Λ₀ (thr d i).2) α} {Q : α → sProp 𝕄} {f : Vec F S6000 .f32} :
    (((thr d i).loc cc0_scratch0 ↦{q} f : sProp 𝕄))
      ⊢ iprop((((thr d i).loc cc0_scratch0 ↦{q} f) -∗ wp frame (wpE (defs₀ (F := F)) 𝒱₀ (thr d i) none) Set.univ (k (gat (d := S6000.size) f v)) Q)
        -∗ wp frame (wpE (defs₀ (F := F)) 𝒱₀ (thr d i) none) Set.univ (SparseCore.vectorLoadIdx (s0) ![v] h hl >>= k) Q) := by
  have e := SparseCore.wp_vectorLoadIdx (defs := defs₀ (F := F)) 𝒱₀ (thr d i) none Set.univ (base := (s0)) (idxs := ![v]) (h := h) (hl := hl) (k := k) (Q := Q)
    (S := Finset.univ) (q := q) (f := f) (Finset.subset_univ _)
  rw [Memref.read_access_whole] at e
  rw [← gat_of (d := S6000.size) f v h]
  exact e

/-- A gather of the bins' boundaries. -/
theorem wp_gatT {v : IVec S16 32} {h : InR S16.size v} {hl : (s2).view.Loads}
    {k : Vec F S16 .f32 → Prog (TpuEff nD τ sig (Elt F) Λ₀ (thr d i).2) α} {Q : α → sProp 𝕄} {f : Vec F S16 .f32} :
    (((thr d i).loc cc0_scratch2 ↦{q} f : sProp 𝕄))
      ⊢ iprop((((thr d i).loc cc0_scratch2 ↦{q} f) -∗ wp frame (wpE (defs₀ (F := F)) 𝒱₀ (thr d i) none) Set.univ (k (gat (d := S16.size) f v)) Q)
        -∗ wp frame (wpE (defs₀ (F := F)) 𝒱₀ (thr d i) none) Set.univ (SparseCore.vectorLoadIdx (s2) ![v] h hl >>= k) Q) := by
  have e := SparseCore.wp_vectorLoadIdx (defs := defs₀ (F := F)) 𝒱₀ (thr d i) none Set.univ (base := (s2)) (idxs := ![v]) (h := h) (hl := hl) (k := k) (Q := Q)
    (S := Finset.univ) (q := q) (f := f) (Finset.subset_univ _)
  rw [Memref.read_access_whole] at e
  rw [← gat_of (d := S16.size) f v h]
  exact e

/-- A scatter that adds to the sums. -/
theorem wp_sctA {v : IVec S16 32} {x : Vec F S16 .f32} {h : InR S720.size v} {hs : ((s3).access (.whole S720)).Stores Finset.univ}
    {k : PUnit → Prog (TpuEff nD τ sig (Elt F) Λ₀ (thr d i).2) α} {Q : α → sProp 𝕄} {f : Vec F S720 .f32} :
    (((thr d i).loc cc0_scratch3 ↦{fullShare} f : sProp 𝕄))
      ⊢ iprop((((thr d i).loc cc0_scratch3 ↦{fullShare} (sct (d := S720.size) f v x : Vec F S720 .f32))
            -∗ wp frame (wpE (defs₀ (F := F)) 𝒱₀ (thr d i) none) Set.univ (k ⟨⟩) Q)
        -∗ wp frame (wpE (defs₀ (F := F)) 𝒱₀ (thr d i) none) Set.univ (SparseCore.vectorStoreIdx (s3) ![v] x (fun _ => 1#1) true h hs >>= k) Q) := by
  have e := SparseCore.wp_vectorStoreIdx (defs := defs₀ (F := F)) 𝒱₀ (thr d i) none Set.univ (base := (s3)) (idxs := ![v]) (v := x) (mask := fun _ => 1#1) (add := true)
    (h := h) (hs := hs) (k := k) (Q := Q) (f := f)
  rw [Memref.read_access_whole, Memref.write_access_whole_univ, Memref.set_access_whole] at e
  rw [← sct_of (d := S720.size) f v x h]
  exact e

end Ops

/-! ## One group -/

/-- Loading the group's labels. -/
theorem lbs_eq (lb : Vec F S2000 .i32) (g : Fin k0_t2_loop.trips) (h : ∀ a, k0_off3 g a + S16.size a ≤ S2000.size a) :
    (s1).view.readAt (Elt F) (Rect.unit (s := S2000) (k0_off3 g) S16.size h).toLoadRect lb = lbs lb g := by
  funext x
  show lb ((Rect.unit (s := S2000) (k0_off3 g) S16.size h).emb x) = _
  unfold lbs
  congr 1; funext a
  refine Fin.ext ?_
  simp [k0_off3_eq]

set_option maxHeartbeats 4000000 in
/-- One group of the program: the sums become those after one `step` more. -/
theorem group_body (t : Fin k0_t1_loop.trips) (hc : k0_cond1 i t = 1#1) (g : Fin k0_t2_loop.trips) (a : BitVec 32)
    (lg : Vec F S6000 .f32) (lb : Vec F S2000 .i32) (bt : Vec F S16 .f32) (acc : Vec F S720 .f32) (ok : Ok lg bt g) :
    (iprop(((thr d i).loc cc0_scratch0 ↦{fullShare} lg) ∗ ((thr d i).loc cc0_scratch1 ↦{fullShare} lb)
        ∗ ((thr d i).loc cc0_scratch2 ↦{fullShare} bt) ∗ ((thr d i).loc cc0_scratch3 ↦{fullShare} acc)) : sProp 𝕄)
      ⊢ wp frame (wpE (defs₀ (F := F)) 𝒱₀ (thr d i) none) Set.univ
          (k0_t2_body i lV (Memref.isWhole_whole _) bV (Memref.isWhole_whole _) tV (Memref.isWhole_whole _) oV (Memref.isWhole_whole _)
            s0 (Memref.isWhole_whole _) s1 (Memref.isWhole_whole _) s2 (Memref.isWhole_whole _) s3 (Memref.isWhole_whole _)
            cc0_scoped0 cc0_scoped1 cc0_scoped2 cc0_scoped3 k0_pay14 t hc g a)
          fun _ => iprop(((thr d i).loc cc0_scratch0 ↦{fullShare} lg) ∗ ((thr d i).loc cc0_scratch1 ↦{fullShare} lb)
            ∗ ((thr d i).loc cc0_scratch2 ↦{fullShare} bt) ∗ ((thr d i).loc cc0_scratch3 ↦{fullShare} (step lg lb bt g acc : Vec F S720 .f32))) := by
  unfold k0_t2_body
  simp only [k0_part1_eq_skeleton]; unfold k0_part1_skel
  simp only [Prog.lift, Prog.bind_op, Prog.bind_ret, Prog.pure_eq_ret, bind_assoc]
  iintro ⟨H0, H1, H2, H3⟩
  rw [wp_assume_of _ _ _ _ (show k0_chk1 i t (ix0 g) from fun _ => inR_ix0 g)]
  iapply (wp_gatL d i (h := inR_ix0 g)) $$ H0; iintro H0
  rw [wp_assume_of _ _ _ _ (show k0_chk2 i t (k0_pay7 (ix0 g)) from fun _ => inR_ix1 g)]
  iapply (wp_gatL d i (h := inR_ix1 g)) $$ H0; iintro H0
  rw [wp_assume_of _ _ _ _ (show k0_chk3 i t (k0_pay8 (ix0 g)) from fun _ => inR_ix2 g)]
  iapply (wp_gatL d i (h := inR_ix2 g)) $$ H0; iintro H0
  iapply (wp_load 𝒱₀ (thr d i) none Set.univ (m := (s1 : Memref sig .scVector .vmem S2000 .i32)) (S := Finset.univ) (Finset.subset_univ _)) $$ H1; iintro H1
  rw [lbs_eq]
  rw [wp_assume_of _ _ _ _ (show k0_chk4 i t (bin0 lg g) from fun _ => ok.b0)]
  iapply (wp_gatT d i (h := ok.b0)) $$ H2; iintro H2
  rw [wp_assume_of _ _ _ _ (show k0_chk5 i t (k0_pay2 (bin0 lg g) 1#32) from fun _ => ok.b1)]
  iapply (wp_gatT d i (h := ok.b1)) $$ H2; iintro H2
  rw [wp_assume_of _ _ _ _ (show k0_chk6 i t (slot lg bt g) from fun _ => ok.s0)]
  iapply (wp_sctA d i (h := ok.s0)) $$ H3; iintro H3
  rw [wp_assume_of _ _ _ _ (show k0_chk7 i t (k0_pay4 (slot lg bt g)) from fun _ => ok.s1)]
  iapply (wp_sctA d i (h := ok.s1)) $$ H3; iintro H3
  rw [wp_assume_of _ _ _ _ (show k0_chk8 i t (k0_pay5 (slot lg bt g)) from fun _ => ok.s2)]
  iapply (wp_sctA d i (h := ok.s2)) $$ H3; iintro H3
  sl_step
  isplitl [H0]; · iexact H0
  isplitl [H1]; · iexact H1
  isplitl [H2]; · iexact H2
  iexact H3

/-! ## One chunk -/

abbrev c0cell (d : Dev nD) (i : grid0.Coords) : GSem nD τ sig := (thr d i, .dma cc0_scoped0.sem)
abbrev c1cell (d : Dev nD) (i : grid0.Coords) : GSem nD τ sig := (thr d i, .dma cc0_scoped1.sem)
abbrev c2cell (d : Dev nD) (i : grid0.Coords) : GSem nD τ sig := (thr d i, .dma cc0_scoped2.sem)
abbrev c3cell (d : Dev nD) (i : grid0.Coords) : GSem nD τ sig := (thr d i, .dma cc0_scoped3.sem)

/-- The loop over a chunk's groups, after `n` of them. -/
def invG (lg : Vec F S6000 .f32) (lb : Vec F S2000 .i32) (bt : Vec F S16 .f32) (acc : Vec F S720 .f32) (n : ℕ) (_ : BitVec 32) : sProp 𝕄 :=
  iprop(((thr d i).loc cc0_scratch0 ↦{fullShare} lg) ∗ ((thr d i).loc cc0_scratch1 ↦{fullShare} lb)
    ∗ ((thr d i).loc cc0_scratch2 ↦{fullShare} bt) ∗ ((thr d i).loc cc0_scratch3 ↦{fullShare} (groups lg lb bt acc n : Vec F S720 .f32)))

/-- The loop over a subcore's chunks, after `n` trips: the logits and the labels at some share, the boundaries in their scratch, the
    sums so far, the two counters at zero and what the subcore owes. -/
def invT (qL qB : PosShare TreeShare) (L : Vec F S6000000 .f32) (B : Vec F S2000000 .i32) (bt : Vec F S16 .f32)
    (O : CellTallies nD τ sig (HIx 1)) (W : Waits sig (HIx 1)) (n : ℕ) (_ : BitVec 32) : sProp 𝕄 :=
  iprop(Transfers.MayWaits (thr d i) (none : HIx 1) O
    ∗ ((lV).view.loc (thr d i) ↦{qL} L) ∗ ((bV).view.loc (thr d i) ↦{qB} B)
    ∗ (∃ f, (s0).view.loc (thr d i) ↦{fullShare} f) ∗ (∃ f, (s1).view.loc (thr d i) ↦{fullShare} f)
    ∗ ((thr d i).loc cc0_scratch2 ↦{fullShare} bt) ∗ ((thr d i).loc cc0_scratch3 ↦{fullShare} (trips i L B bt n : Vec F S720 .f32))
    ∗ semVal (c1cell d i) 0 ∗ semVal (c2cell d i) 0
    ∗ ∃ W', ⌜∀ p ∈ W', p ∈ W ∨ p.2 = none⌝ ∗ owes (thr d i) O W')

/-- A scratch array that a copy has filled holds what the copy read. -/
theorem pts0 (f : Buf (Elt F) ((s0).view.loc (thr d i))) (pay : S6000.Idx → Elt F .f32) (x : Vec F S6000 .f32) (h : pay = x) :
    ((s0).view.loc (thr d i) ↦{fullShare} View.write (Elt F) (s0).view f pay Finset.univ : sProp 𝕄) = (thr d i).loc cc0_scratch0 ↦{fullShare} x := by
  subst h; exact congrArg (fun g => ((s0).view.loc (thr d i) ↦{fullShare} g : sProp 𝕄)) (View.write_whole_univ _ _ _)
theorem pts1 (f : Buf (Elt F) ((s1).view.loc (thr d i))) (pay : S2000.Idx → Elt F .i32) (x : Vec F S2000 .i32) (h : pay = x) :
    ((s1).view.loc (thr d i) ↦{fullShare} View.write (Elt F) (s1).view f pay Finset.univ : sProp 𝕄) = (thr d i).loc cc0_scratch1 ↦{fullShare} x := by
  subst h; exact congrArg (fun g => ((s1).view.loc (thr d i) ↦{fullShare} g : sProp 𝕄)) (View.write_whole_univ _ _ _)
theorem pts2 (f : Buf (Elt F) ((s2).view.loc (thr d i))) (pay : S16.Idx → Elt F .f32) (x : Vec F S16 .f32) (h : pay = x) :
    ((s2).view.loc (thr d i) ↦{fullShare} View.write (Elt F) (s2).view f pay Finset.univ : sProp 𝕄) = (thr d i).loc cc0_scratch2 ↦{fullShare} x := by
  subst h; exact congrArg (fun g => ((s2).view.loc (thr d i) ↦{fullShare} g : sProp 𝕄)) (View.write_whole_univ _ _ _)

set_option maxHeartbeats 4000000 in
/-- One trip of the program: the copies of the chunk, if it exists, and its groups. -/
theorem trip_body (qL qB : PosShare TreeShare) (L : Vec F S6000000 .f32) (B : Vec F S2000000 .i32) (bt : Vec F S16 .f32)
    (O : CellTallies nD τ sig (HIx 1)) (W : Waits sig (HIx 1)) (ok : TileOk i L bt) (t : Fin k0_t1_loop.trips) (a a' : BitVec 32) :
    (invT d i qL qB L B bt O W t.val a' : sProp 𝕄)
      ⊢ wp frame (wpE (defs₀ (F := F)) 𝒱₀ (thr d i) none) Set.univ
          (k0_t1_body i lV (Memref.isWhole_whole _) bV (Memref.isWhole_whole _) tV (Memref.isWhole_whole _) oV (Memref.isWhole_whole _)
            s0 (Memref.isWhole_whole _) s1 (Memref.isWhole_whole _) s2 (Memref.isWhole_whole _) s3 (Memref.isWhole_whole _)
            cc0_scoped0 cc0_scoped1 cc0_scoped2 cc0_scoped3 k0_pay14 t a)
          fun r => invT d i qL qB L B bt O W (t.val + 1) r := by
  unfold k0_t1_body
  by_cases hc : k0_cond1 i t = 1#1
  · unfold invT
    iintro ⟨Hmw, HL, HB, ⟨%f0, H0⟩, ⟨%f1, H1⟩, H2, H3, Hc1, Hc2, %W', %hW', HO⟩
    sl_exec (disch := exact View.amount_pos _ _ (by decide))
    ihave H0' := (Entails.of_eq (pts0 d i f0 (trip_body.sl.dma0 i L t hc) (chL i L t hc) rfl)) $$ H0
    ihave H1' := (Entails.of_eq (pts1 d i f1 (trip_body.sl.dma0_1 i B t hc) (chB i B t hc) rfl)) $$ H1
    sl_for (invG d i (chL i L t hc) (chB i B t hc) bt (trips i L B bt t.val)) $$ [H0' H1' H2 H3]
    case region =>
      intro g b
      unfold invG
      rw [groups_succ]
      exact group_body d i t hc g b _ _ _ _ (ok t hc g)
    · unfold invG
      isplitl [H0']; · iexact H0'
      isplitl [H1']; · iexact H1'
      isplitl [H2]; · iexact H2
      iexact H3
    iintro %b HI
    unfold invG
    icases HI with ⟨H0, H1, H2, H3⟩
    sl_exec
    sl_step
    rw [trips_succ_of i L B bt t hc]
    isplitl [Hmw]; · iexact Hmw
    isplitl [HL]; · iexact HL
    isplitl [HB]; · iexact HB
    isplitl [H0]; · iexists _; iexact H0
    isplitl [H1]; · iexists _; iexact H1
    isplitl [H2]; · iexact H2
    isplitl [H3]; · iexact H3
    isplitl [Hc1]; · iexact Hc1
    isplitl [Hc2]; · iexact Hc2
    iexists _; isplitr
    swap; · iexact HO
    ipureintro; intro p hp
    rcases Finset.mem_insert.mp hp with hp | hp; · exact .inr (hp ▸ rfl)
    rcases Finset.mem_insert.mp hp with hp | hp; · exact .inr (hp ▸ rfl)
    exact hW' p hp
  · unfold invT
    iintro ⟨Hmw, HL, HB, H0, H1, H2, H3, Hc1, Hc2, HO⟩
    sl_exec
    sl_step
    rw [trips_succ_not i L B bt t hc]
    isplitl [Hmw]; · iexact Hmw
    isplitl [HL]; · iexact HL
    isplitl [HB]; · iexact HB
    isplitl [H0]; · iexact H0
    isplitl [H1]; · iexact H1
    isplitl [H2]; · iexact H2
    isplitl [H3]; · iexact H3
    isplitl [Hc1]; · iexact Hc1
    isplitl [Hc2]; · iexact Hc2
    iexact HO

/-! ## The whole task -/

/-- Row `2 * (i 1) + i 0` of the parts, as the subcore at `i` addresses it. -/
abbrev oRowK (i : grid0.Coords) : Memref sig .scVector .hbm S720 .f32 :=
  ((oV).slice (Rect.unit (s := S32x720) (k0_off4 i) S1x720.size (k0_off4_inb i)) (fun _ => rfl)).squeeze S720 squeezes_S1x720_S720

omit [FloatOps F] in
/-- The copies' four counters are among the subcore's own. -/
theorem ownSems0_V :
    (ownSems0 (thr d i) : sProp 𝕄)
      = iprop(semVal (c0cell d i) 0 ∗ semVal (c1cell d i) 0 ∗ semVal (c2cell d i) 0 ∗ semVal (c3cell d i) 0
          ∗ bigSep (((((ownCells (thr d i)).erase (c0cell d i)).erase (c1cell d i)).erase (c2cell d i)).erase (c3cell d i)) fun g => semVal g 0) := by
  unfold SparseCore.Cfg.ownSems0
  have m0 : c0cell d i ∈ ownCells (thr d i) := mem_ownCells.mpr ⟨rfl, by show (SemLoc.dma cc0_scoped0.sem : SemLoc sig).isScoped .scVector = true; decide⟩
  have m1 : c1cell d i ∈ ownCells (thr d i) := mem_ownCells.mpr ⟨rfl, by show (SemLoc.dma cc0_scoped1.sem : SemLoc sig).isScoped .scVector = true; decide⟩
  have m2 : c2cell d i ∈ ownCells (thr d i) := mem_ownCells.mpr ⟨rfl, by show (SemLoc.dma cc0_scoped2.sem : SemLoc sig).isScoped .scVector = true; decide⟩
  have m3 : c3cell d i ∈ ownCells (thr d i) := mem_ownCells.mpr ⟨rfl, by show (SemLoc.dma cc0_scoped3.sem : SemLoc sig).isScoped .scVector = true; decide⟩
  have ne : ∀ {a b : DmaSem sig}, a ≠ b → ((thr d i, .dma a) : GSem nD τ sig) ≠ (thr d i, .dma b) := fun h e => h (by simpa using e)
  have n10 : c1cell d i ≠ c0cell d i := ne (by decide)
  have n20 : c2cell d i ≠ c0cell d i := ne (by decide)
  have n21 : c2cell d i ≠ c1cell d i := ne (by decide)
  have n30 : c3cell d i ≠ c0cell d i := ne (by decide)
  have n31 : c3cell d i ≠ c1cell d i := ne (by decide)
  have n32 : c3cell d i ≠ c2cell d i := ne (by decide)
  rw [SparseCore.bigSep_erase' m0, SparseCore.bigSep_erase' (Finset.mem_erase.mpr ⟨n10, m1⟩),
    SparseCore.bigSep_erase' (Finset.mem_erase.mpr ⟨n21, Finset.mem_erase.mpr ⟨n20, m2⟩⟩),
    SparseCore.bigSep_erase' (Finset.mem_erase.mpr ⟨n32, Finset.mem_erase.mpr ⟨n31, Finset.mem_erase.mpr ⟨n30, m3⟩⟩⟩)]

omit [FloatOps F] in
/-- The four scratch arrays are among the subcore's own: they are them, at some contents, and the rest. -/
theorem ownBufs_V :
    (ownBufs (thr d i) : sProp 𝕄)
      = iprop((∃ f, (thr d i).loc cc0_scratch0 ↦{fullShare} f) ∗ (∃ f, (thr d i).loc cc0_scratch1 ↦{fullShare} f)
          ∗ (∃ f, (thr d i).loc cc0_scratch2 ↦{fullShare} f) ∗ (∃ f, (thr d i).loc cc0_scratch3 ↦{fullShare} f)
          ∗ bigSep (((((ownRefs (τ := τ) (.scVector (cV i) (jV i))).erase ((Proc.scVector (cV i) (jV i)).devRef cc0_scratch0)).erase
              ((Proc.scVector (cV i) (jV i)).devRef cc0_scratch1)).erase ((Proc.scVector (cV i) (jV i)).devRef cc0_scratch2)).erase
              ((Proc.scVector (cV i) (jV i)).devRef cc0_scratch3))
              fun b => iprop(∃ f, ((d, b) : Loc nD τ sig) ↦{fullShare} f)) := by
  unfold SparseCore.Cfg.ownBufs
  have mm : ∀ {b : Ref sig .scVector}, ((Proc.scVector (cV i) (jV i)).devRef b : DevRef τ sig).owner = .proc (.scVector (cV i) (jV i)) →
      (Proc.scVector (cV i) (jV i)).devRef b ∈ ownRefs (τ := τ) (.scVector (cV i) (jV i)) := fun h =>
    SparseCore.Cfg.mem_ownRefs_of_owner (p := Proc.scVector (cV i) (jV i)) h
  have ne : ∀ {a b : Ref sig .scVector}, a ≠ b → (Proc.scVector (cV i) (jV i)).devRef a ≠ (Proc.scVector (cV i) (jV i)).devRef b :=
    fun h e => h (Proc.devRef_injective _ e)
  have n10 := ne (show (cc0_scratch1 : Ref sig .scVector) ≠ cc0_scratch0 by decide)
  have n20 := ne (show (cc0_scratch2 : Ref sig .scVector) ≠ cc0_scratch0 by decide)
  have n21 := ne (show (cc0_scratch2 : Ref sig .scVector) ≠ cc0_scratch1 by decide)
  have n30 := ne (show (cc0_scratch3 : Ref sig .scVector) ≠ cc0_scratch0 by decide)
  have n31 := ne (show (cc0_scratch3 : Ref sig .scVector) ≠ cc0_scratch1 by decide)
  have n32 := ne (show (cc0_scratch3 : Ref sig .scVector) ≠ cc0_scratch2 by decide)
  refine (SparseCore.bigSep_erase' (mm (b := cc0_scratch0) rfl)).trans ?_
  rw [SparseCore.bigSep_erase' (Finset.mem_erase.mpr ⟨n10, mm rfl⟩),
    SparseCore.bigSep_erase' (Finset.mem_erase.mpr ⟨n21, Finset.mem_erase.mpr ⟨n20, mm rfl⟩⟩),
    SparseCore.bigSep_erase' (Finset.mem_erase.mpr ⟨n32, Finset.mem_erase.mpr ⟨n31, Finset.mem_erase.mpr ⟨n30, mm rfl⟩⟩⟩)]

/-- Writes of zeros that cover the sums leave zeros. -/
theorem pts3 (f : Buf (Elt F) ((s3).view.loc (thr d i))) (Ls : List (View.Piece (Elt F) S720 .f32)) (h0 : ∀ p ∈ Ls, p.2 = fun _ => Scalar.ofBits .f32 0x00000000#32)
    (hc : View.Piece.tiled Ls ![16] = true) :
    ((s3).view.loc (thr d i) ↦{fullShare} (s3).view.writes (Elt F) f Ls : sProp 𝕄)
      = (thr d i).loc cc0_scratch3 ↦{fullShare} (fun _ => Scalar.ofBits .f32 0x00000000#32 : Vec F S720 .f32) := by
  refine congrArg (fun g => ((s3).view.loc (thr d i) ↦{fullShare} g : sProp 𝕄)) (funext fun y => ?_)
  exact View.read_writes_apply_of_pieces (s3).view f (fun _ => Scalar.ofBits .f32 0x00000000#32) Ls (fun p hp x => by rw [h0 p hp]) y
    (View.cover_of_tiled Ls ![16] hc y)

end Tile

end Cert.Proof.Tile

end
-- ==== Proof.Row.lean ====
/-
  Where a subcore's row of the parts lies, and what it holds once the subcore has copied its sums there.
-/
module

public import proofs.«01_k».proof.Proof.Tile

@[expose] public section

noncomputable section

namespace Cert.Proof.Tile

open Cert.KernelIdeal Cert.KernelIdeal.Gen Cert.Proof.Step

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "lV" => (Memref.whole Cert.KernelIdeal.main_v1_scv : Memref Cert.KernelIdeal.sig Kind.scVector Space.hbm Cert.KernelIdeal.S6000000 EltTy.f32)
local notation "bV" => (Memref.whole Cert.KernelIdeal.main_arg1_scv : Memref Cert.KernelIdeal.sig Kind.scVector Space.hbm Cert.KernelIdeal.S2000000 EltTy.i32)
local notation "tV" => (Memref.whole Cert.KernelIdeal.main_v0_scv : Memref Cert.KernelIdeal.sig Kind.scVector Space.hbm Cert.KernelIdeal.S16 EltTy.f32)
local notation "oV" => (Memref.whole Cert.KernelIdeal.main_v2_scv : Memref Cert.KernelIdeal.sig Kind.scVector Space.hbm Cert.KernelIdeal.S32x720 EltTy.f32)
local notation "s0" => (Memref.whole Cert.KernelIdeal.cc0_scratch0 : Memref Cert.KernelIdeal.sig Kind.scVector Space.vmem Cert.KernelIdeal.S6000 EltTy.f32)
local notation "s1" => (Memref.whole Cert.KernelIdeal.cc0_scratch1 : Memref Cert.KernelIdeal.sig Kind.scVector Space.vmem Cert.KernelIdeal.S2000 EltTy.i32)
local notation "s2" => (Memref.whole Cert.KernelIdeal.cc0_scratch2 : Memref Cert.KernelIdeal.sig Kind.scVector Space.vmem Cert.KernelIdeal.S16 EltTy.f32)
local notation "s3" => (Memref.whole Cert.KernelIdeal.cc0_scratch3 : Memref Cert.KernelIdeal.sig Kind.scVector Space.vmem Cert.KernelIdeal.S720 EltTy.f32)

variable [FloatOps F]

variable (d : Dev nD) (i : grid0.Coords)

omit [FloatOps F] in
/-- The elements of a subcore's row. -/
theorem oRowK_emb (x : S720.Idx) : (oRowK i).view.emb x = (Rect.unit (s := S32x720) (k0_off4 i) S1x720.size (k0_off4_inb i)).emb
    (Fin.cons ⟨0, Nat.one_pos⟩ x) := by
  rw [← Shape.reshapeEquiv_cons_one squeezes_S1x720_S720.numel_eq x]
  rfl

/-- They are in row `2 * (i 1) + i 0`. -/
theorem oRowK_emb_row (x : S720.Idx) : ((oRowK i).view.emb x 0).val = 2 * (i 1).val + (i 0).val := by
  rw [oRowK_emb]
  simp [k0_off4_eq]
  rfl

/-- They are in their own columns. -/
theorem oRowK_emb_col (x : S720.Idx) : ((oRowK i).view.emb x 1).val = (x 0).val := by
  rw [oRowK_emb]
  simp [k0_off4_eq]
  rfl

/-- Writing the sums to the row leaves the parts there. -/
theorem row_writes (L : Vec F S6000000 .f32) (B : Vec F S2000000 .i32) (bt : Vec F S16 .f32) (fo : Vec F S32x720 .f32) (x : S720.Idx) :
    (oRowK i).view.writes (Elt F) fo [⟨Rect.whole S720, tileAcc i L B bt⟩] ((oRowK i).view.emb x) = parts L B bt ((oRowK i).view.emb x) := by
  rw [parts_of i L B bt _ x (oRowK_emb_row i x) (oRowK_emb_col i x)]
  have e1 := View.read_writes_cons_emb (Val := Elt F) (oRowK i).view fo (Rect.whole S720) (tileAcc i L B bt) [] x
  rw [show (Rect.whole S720).emb x = x from Rect.emb_whole_apply S720 x] at e1
  exact e1

/-- The row of the parts, once the copy has filled it, agrees with the parts. -/
theorem ptsRow (L : Vec F S6000000 .f32) (B : Vec F S2000000 .i32) (bt : Vec F S16 .f32) (fo : Vec F S32x720 .f32) (pay : Vec F S720 .f32)
    (h : pay = tileAcc i L B bt) :
    ((oRowK i).view.loc (thr d i) ↦[(oRowK i).view.set]{fullShare} (oRowK i).view.writes (Elt F) fo [⟨Rect.whole S720, pay⟩] : sProp 𝕄)
      = (oRowK i).view.loc (thr d i) ↦[(oRowK i).view.set]{fullShare} (parts L B bt : Vec F S32x720 .f32) := by
  subst h
  refine pointsTo_congr fun y hy => ?_
  obtain ⟨x, -, rfl⟩ := Finset.mem_map.mp hy
  exact row_writes i L B bt fo x

end Cert.Proof.Tile

end
-- ==== Proof.TileBody.lean ====
/-
  One subcore's whole task (`tile_body`): the 720 sums set to zero, the boundaries fetched, every chunk of the subcore added up,
  and the sums written to the subcore's row of the parts.
-/
module

public import proofs.«01_k».proof.Proof.Row

@[expose] public section

noncomputable section

namespace Cert.Proof.Tile

open Cert.KernelIdeal Cert.KernelIdeal.Gen Cert.Proof.Step

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "lV" => (Memref.whole Cert.KernelIdeal.main_v1_scv : Memref Cert.KernelIdeal.sig Kind.scVector Space.hbm Cert.KernelIdeal.S6000000 EltTy.f32)
local notation "bV" => (Memref.whole Cert.KernelIdeal.main_arg1_scv : Memref Cert.KernelIdeal.sig Kind.scVector Space.hbm Cert.KernelIdeal.S2000000 EltTy.i32)
local notation "tV" => (Memref.whole Cert.KernelIdeal.main_v0_scv : Memref Cert.KernelIdeal.sig Kind.scVector Space.hbm Cert.KernelIdeal.S16 EltTy.f32)
local notation "oV" => (Memref.whole Cert.KernelIdeal.main_v2_scv : Memref Cert.KernelIdeal.sig Kind.scVector Space.hbm Cert.KernelIdeal.S32x720 EltTy.f32)
local notation "s0" => (Memref.whole Cert.KernelIdeal.cc0_scratch0 : Memref Cert.KernelIdeal.sig Kind.scVector Space.vmem Cert.KernelIdeal.S6000 EltTy.f32)
local notation "s1" => (Memref.whole Cert.KernelIdeal.cc0_scratch1 : Memref Cert.KernelIdeal.sig Kind.scVector Space.vmem Cert.KernelIdeal.S2000 EltTy.i32)
local notation "s2" => (Memref.whole Cert.KernelIdeal.cc0_scratch2 : Memref Cert.KernelIdeal.sig Kind.scVector Space.vmem Cert.KernelIdeal.S16 EltTy.f32)
local notation "s3" => (Memref.whole Cert.KernelIdeal.cc0_scratch3 : Memref Cert.KernelIdeal.sig Kind.scVector Space.vmem Cert.KernelIdeal.S720 EltTy.f32)

variable [FloatOps F]

variable (d : Dev nD) (i : grid0.Coords)

set_option maxHeartbeats 4000000 in
/-- One subcore's task: from shares of the logits, the labels and the boundaries and from its row of the parts, it returns the
    shares and its row of `parts` (`Q` is any consequence of that). -/
theorem tile_body (hF : (K (F := F)).Facts) (qL qB qT : PosShare TreeShare) (L : Vec F S6000000 .f32) (B : Vec F S2000000 .i32) (bt : Vec F S16 .f32)
    (ok : TileOk i L bt) (fo : Vec F S32x720 .f32)
    (O : CellTallies nD τ sig (HIx 1)) (W : Waits sig (HIx 1)) (hO : ∀ g, O g none = 0)
    {Q : PUnit → sProp 𝕄} (hQ : iprop((((lV).view.loc (thr d i) ↦{qL} L) ∗ ((bV).view.loc (thr d i) ↦{qB} B) ∗ ((tV).view.loc (thr d i) ↦{qT} bt)
              ∗ ((oRowK i).view.loc (thr d i) ↦[(oRowK i).view.set]{fullShare}
                  (parts L B bt : Vec F S32x720 .f32)))
            ∗ scopedBufs (thr d i) ∗ scopedSems0 (thr d i)
            ∗ ∃ W', ⌜∀ p ∈ W', p ∈ W ∨ p.2 = none⌝ ∗ owes (thr d i) O W') ⊢ Q ⟨⟩) :
    (iprop(levAts (K (F := F)).L (K (F := F)).lev ∗ emp
        ∗ (((lV).view.loc (thr d i) ↦{qL} L) ∗ ((bV).view.loc (thr d i) ↦{qB} B) ∗ ((tV).view.loc (thr d i) ↦{qT} bt)
          ∗ ((oRowK i).view.loc (thr d i) ↦[(oRowK i).view.set]{fullShare} fo))
        ∗ scopedBufs (thr d i) ∗ scopedSems0 (thr d i) ∗ owes (thr d i) O W) : sProp 𝕄)
      ⊢ wp frame (wpE (defs₀ (F := F)) 𝒱₀ (thr d i) none) Set.univ
          (cc0__ece_body i lV (Memref.isWhole_whole _) bV (Memref.isWhole_whole _) tV (Memref.isWhole_whole _) oV (Memref.isWhole_whole _)
            s0 (Memref.isWhole_whole _) s1 (Memref.isWhole_whole _) s2 (Memref.isWhole_whole _) s3 (Memref.isWhole_whole _)
            cc0_scoped0 cc0_scoped1 cc0_scoped2 cc0_scoped3)
          Q := by
  simp only [cc0__ece_body_eq_skeleton]; unfold cc0__ece_body_skel
  simp only [k0_part2_eq_skeleton, k0_part3_eq_skeleton]; unfold k0_part2_skel k0_part3_skel
  simp only [Prog.lift, Prog.bind_op, Prog.bind_ret, Prog.pure_eq_ret, bind_assoc]
  rw [(K (F := F)).scopedBufs_V hF d (cV i) (jV i), SparseCore.Cfg.scopedSems0_V (Val := Elt F) d (cV i) (jV i), ownSems0_V, ownBufs_V] at hQ ⊢
  iintro ⟨#Hlv, -, ⟨HL, HB, HT, Ho⟩, ⟨⟨%f0, H0⟩, ⟨%f1, H1⟩, ⟨%f2, H2⟩, ⟨%f3, H3⟩, Hbufs⟩, ⟨Hc0, Hc1, Hc2, Hc3, Hsems⟩, HO⟩
  ihave Hmw := (show levAts (K (F := F)).L (K (F := F)).lev ⊢ Transfers.MayWaits (thr d i) (default : HIx 1) O from
    (K (F := F)).mayWaits_none (thr := thr d i) hO) $$ Hlv
  ihave H0' := (Entails.of_eq (show ((thr d i).loc cc0_scratch0 ↦{fullShare} f0 : sProp 𝕄) = (s0).view.loc (thr d i) ↦{fullShare} f0 from rfl)) $$ H0
  ihave H1' := (Entails.of_eq (show ((thr d i).loc cc0_scratch1 ↦{fullShare} f1 : sProp 𝕄) = (s1).view.loc (thr d i) ↦{fullShare} f1 from rfl)) $$ H1
  ihave H2' := (Entails.of_eq (show ((thr d i).loc cc0_scratch2 ↦{fullShare} f2 : sProp 𝕄) = (s2).view.loc (thr d i) ↦{fullShare} f2 from rfl)) $$ H2
  ihave H3' := (Entails.of_eq (show ((thr d i).loc cc0_scratch3 ↦{fullShare} f3 : sProp 𝕄) = (s3).view.loc (thr d i) ↦{fullShare} f3 from rfl)) $$ H3
  ihave HL' := (Entails.of_eq (show (_ : sProp 𝕄) = (lV).view.loc (thr d i) ↦{qL} L from rfl)) $$ HL
  ihave HB' := (Entails.of_eq (show (_ : sProp 𝕄) = (bV).view.loc (thr d i) ↦{qB} B from rfl)) $$ HB
  ihave HT' := (Entails.of_eq (show (_ : sProp 𝕄) = (tV).view.loc (thr d i) ↦{qT} bt from rfl)) $$ HT
  ihave Ho' := (Entails.of_eq (show (_ : sProp 𝕄) = (oRowK i).view.loc (thr d i) ↦[(oRowK i).view.set]{fullShare} fo from rfl)) $$ Ho
  sl_exec (disch := exact View.amount_pos _ _ (by decide))
  ihave H2' := (Entails.of_eq (pts2 d i f2 (tile_body.sl.dma90 bt) bt rfl)) $$ H2'
  ihave H3' := (Entails.of_eq (pts3 d i (s3).view.junk tile_body.sl.H3'_45 (by
    intro p hp; fin_cases hp <;> rfl) rfl)) $$ H3'
  sl_for (invT d i qL qB L B bt O W) $$ [HL' HB' H0' H1' H2' H3' Hc1 Hc2 HO]
  case region => intro k a; exact trip_body d i qL qB L B bt O W ok k _ a
  · unfold invT
    isplitr; · iexact Hmw
    isplitl [HL']; · iexact HL'
    isplitl [HB']; · iexact HB'
    isplitl [H0']; · iexists _; iexact H0'
    isplitl [H1']; · iexists _; iexact H1'
    isplitl [H2']; · iexact H2'
    isplitl [H3']; · iexact H3'
    isplitl [Hc1]; · iexact Hc1
    isplitl [Hc2]; · iexact Hc2
    iexists _; isplitr
    swap; · iexact HO
    ipureintro; intro p hp
    rcases Finset.mem_insert.mp hp with hp | hp; · exact .inr (hp ▸ rfl)
    exact .inl hp
  iintro %b HI
  unfold invT
  icases HI with ⟨-, HL, HB, ⟨%g0, H0⟩, ⟨%g1, H1⟩, H2, H3, Hc1, Hc2, %W', %hW', HO⟩
  ihave H3' := (Entails.of_eq (show ((thr d i).loc cc0_scratch3 ↦{fullShare} trips i L B bt (Scf.trips k0_t1_loop.lb k0_t1_loop.ub k0_t1_loop.st) : sProp 𝕄) = (s3).view.loc (thr d i) ↦{fullShare} tileAcc i L B bt from by rw [tileAcc_eq])) $$ H3
  sl_exec (disch := exact View.amount_pos _ _ (by decide))
  sl_step
  iapply hQ
  isplitl [HL HB HT' Ho']
  · isplitl [HL]; · iexact HL
    isplitl [HB]; · iexact HB
    isplitl [HT']; · iexact HT'
    iapply (Entails.of_eq (ptsRow d i L B bt fo (tile_body.sl.dma0 i L B bt) rfl)); iexact Ho'
  isplitl [H0 H1 H2 H3' Hbufs]
  · isplitl [H0]; · iexists _; iexact H0
    isplitl [H1]; · iexists _; iexact H1
    isplitl [H2]; · iexists _; iexact H2
    isplitl [H3']; · iexists _; iexact H3'
    iexact Hbufs
  isplitl [Hc0 Hc1 Hc2 Hc3 Hsems]
  · isplitl [Hc0]; · iexact Hc0
    isplitl [Hc1]; · iexact Hc1
    isplitl [Hc2]; · iexact Hc2
    isplitl [Hc3]; · iexact Hc3
    iexact Hsems
  iexists _; isplitr
  swap; · iexact HO
  ipureintro; intro p hp
  rcases Finset.mem_insert.mp hp with hp | hp; · exact .inr (hp ▸ rfl)
  exact hW' p hp

end Cert.Proof.Tile

end
-- ==== Proof.RefRun.lean ====
/-
  The reference's run. Its @main is a straight line of whole-array operations (`ops`); from any memory with zero counters it
  terminates with its arguments unchanged, and its result is `ece` of the logits and the labels (`run`): the softmax, its row maxima
  and their positions, the hits, and of each of the 15 bins the count, the mean hit and the mean confidence.
-/
module

public import proofs.«01_k».proof.Proof.Gen.ReferenceIdeal
public import Idealize.ShloMosaic.Lib.StableHlo.Run
public import Idealize.ShloMosaic.Lib.Pipeline.Frame

@[expose] public section

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-! ## What the reference computes -/

/-- The 15 lower edges followed by the last upper edge. -/
def join (a : Vec F S15 .f32) (b : Vec F S1 .f32) : Vec F S16 .f32 :=
  concatenate S16 0 [⟨S15, a⟩, ⟨S1, b⟩] concatenates_S15_S1_S16_d0

/-- Each row's largest entry, and that entry's position (the first of equals). -/
def argVal (x : Vec F S2000000x3 .f32) (y : IVec S2000000x3 32) (u : Vec F S_ .f32) (v : IVec S_ 32) : Vec F S2000000 .f32 :=
  fun j => (Host.argReduce reducer_argmax_f32_i32 x y u v reducesTo_S2000000x3_S2000000_d1 h_S_ j).1
def argIdx (x : Vec F S2000000x3 .f32) (y : IVec S2000000x3 32) (u : Vec F S_ .f32) (v : IVec S_ 32) : IVec S2000000 32 :=
  fun j => (Host.argReduce reducer_argmax_f32_i32 x y u v reducesTo_S2000000x3_S2000000_d1 h_S_ j).2

/-- Each row's maximum. -/
def rowMax (x : Vec F S2000000x3 .f32) : Vec F S2000000 .f32 :=
  Host.reduce FloatOps.maximumf x (constant S_ .f32 0xFF800000#32) reducesTo_S2000000x3_S2000000_d1 h_S_

/-- A number of each row, written in the row's three places. -/
def spread (x : Vec F S2000000 .f32) : Vec F S2000000x3 .f32 :=
  broadcastInDim S2000000x3 ![0, 1] bcast_S2000000x1_S2000000x3_0_1 (broadcastInDim S2000000x1 ![0] bcast_S2000000_S2000000x1_0 x)

/-- The exponentials of the logits, each less its row's maximum. -/
def expo (x : Vec F S2000000x3 .f32) : Vec F S2000000x3 .f32 :=
  Host.exp (subf x (spread (maximumf (broadcastInDim S2000000 ![] bcast_S_S2000000 (constant S_ .f32 0xFF800000#32)) (rowMax x))))

/-- The softmax. -/
def smx (x : Vec F S2000000x3 .f32) : Vec F S2000000x3 .f32 :=
  Host.divf (expo x) (spread (Host.reduceAdd (expo x) (constant S_ .f32 0x00000000#32) reducesTo_S2000000x3_S2000000_d1 h_S_))

/-- The confidences, the predictions and the hits. -/
def conf (x : Vec F S2000000x3 .f32) : Vec F S2000000 .f32 := rowMax (smx x)
/-- The predictions: the position of the largest of the softmax. -/
def pred (x : Vec F S2000000x3 .f32) : IVec S2000000 32 :=
  argIdx (smx x) (iotaInDim S2000000x3 32 1) (constant S_ .f32 0xFF800000#32) (constantI S_ 32 0#32)
/-- The hits: one where the prediction is the label. -/
def hit (x : Vec F S2000000x3 .f32) (b : IVec S2000000 32) : Vec F S2000000 .f32 := uitofp .f32 (cmpi .eq (pred x) b)

/-- `i / 15` of each `i < 15`. -/
def frac : Vec F S15 .f32 :=
  Host.divf (sitofp .f32 (iotaInDim S15 32 0)) (broadcastInDim S15 ![] bcast_S_S15 (constant S_ .f32 0x41700000#32))

/-- The bins' 16 edges. -/
def edges : Vec F S16 .f32 :=
  join (addf
      (mulf (broadcastInDim S15 ![0] bcast_S1_S15_0 (shapeCast S1 (constant S_ .f32 0x00000000#32) shapeCasts_S_S1))
        (subf (broadcastInDim S15 ![] bcast_S_S15 (constant S_ .f32 0x3F800000#32)) frac))
      (mulf (broadcastInDim S15 ![0] bcast_S1_S15_0 (shapeCast S1 (constant S_ .f32 0x3F800000#32) shapeCasts_S_S1)) frac))
    (broadcastInDim S1 ![] bcast_S_S1 (constant S_ .f32 0x3F800000#32))

/-- A number of each row, once per bin; and a number of each bin, once per row. -/
def perRow (c : Vec F S2000000 .f32) : Vec F S15x2000000 .f32 :=
  broadcastInDim S15x2000000 ![0, 1] bcast_S1x2000000_S15x2000000_0_1 (broadcastInDim S1x2000000 ![1] bcast_S2000000_S1x2000000_1 c)
/-- A number of each bin, written along the rows. -/
def perBin (e : Vec F S15 .f32) : Vec F S15x2000000 .f32 :=
  broadcastInDim S15x2000000 ![0, 1] bcast_S15x1_S15x2000000_0_1 (broadcastInDim S15x1 ![0] bcast_S15_S15x1_0 e)

/-- Whether each row lies in each bin. -/
def inBin (c : Vec F S2000000 .f32) : IVec S15x2000000 1 :=
  andi (cmpf .ogt (perRow c) (perBin (extractStridedSlice S15 ![0] edges slices_S16_S15_0)))
    (cmpf .ole (perRow c) (perBin (extractStridedSlice S15 ![1] edges slices_S16_S15_1)))

/-- The sums over the rows. -/
def sumRows (v : Vec F S15x2000000 .f32) : Vec F S15 .f32 :=
  Host.reduceAdd v (constant S_ .f32 0x00000000#32) reducesTo_S15x2000000_S15_d1 h_S_

/-- A number of each row of the bin, summed up. -/
def sumIn (c y : Vec F S2000000 .f32) : Vec F S15 .f32 :=
  sumRows (select (inBin c) (broadcastInDim S15x2000000 ![1] bcast_S2000000_S15x2000000_1 y)
    (broadcastInDim S15x2000000 ![1] bcast_S2000000_S15x2000000_1 (broadcastInDim S2000000 ![] bcast_S_S2000000 (constant S_ .f32 0x00000000#32))))

/-- From the bins' counts, sums of confidences and sums of hits, the expected calibration error. -/
def total (cnt sc sa : Vec F S15 .f32) : Vec F S_ .f32 :=
  Host.reduceAdd
    (select
      (cmpf .ogt (Host.divf cnt (broadcastInDim S15 ![] bcast_S_S15 (constant S_ .f32 0x49F42400#32)))
        (broadcastInDim S15 ![] bcast_S_S15 (constant S_ .f32 0x00000000#32)))
      (mulf (Host.absf (subf (Host.divf sc (maximumf cnt (broadcastInDim S15 ![] bcast_S_S15 (constant S_ .f32 0x3F800000#32))))
          (Host.divf sa (maximumf cnt (broadcastInDim S15 ![] bcast_S_S15 (constant S_ .f32 0x3F800000#32))))))
        (Host.divf cnt (broadcastInDim S15 ![] bcast_S_S15 (constant S_ .f32 0x49F42400#32))))
      (broadcastInDim S15 ![] bcast_S_S15 (constant S_ .f32 0x00000000#32)))
    (constant S_ .f32 0x00000000#32) reducesTo_S15_S_d0 h_S_

/-- The reference's result. -/
def ece (x : Vec F S2000000x3 .f32) (b : IVec S2000000 32) : Vec F S_ .f32 :=
  total (sumRows (uitofp .f32 (inBin (conf x)))) (sumIn (conf x) (conf x)) (sumIn (conf x) (hit x b))

/-! ## The run -/

/-- @main's operations in order, those of the functions it calls in the calls' places. -/
abbrev ops : List (HloOp τ sig (Elt F)) :=
  [ nullary main_cst (constant S_ .f32 0xFF800000#32),
    binary main_arg0 main_cst main_v0 ((fun x v => Host.reduce FloatOps.maximumf x v reducesTo_S2000000x3_S2000000_d1 h_S_) : (⟨S2000000x3, .f32⟩ : BufTy).Contents (Elt F) → (⟨S_, .f32⟩ : BufTy).Contents (Elt F) → (⟨S2000000, .f32⟩ : BufTy).Contents (Elt F)),
    nullary main_cst_0 (constant S_ .f32 0xFF800000#32),
    unary main_cst_0 main_v1 (broadcastInDim S2000000 ![] bcast_S_S2000000 : (⟨S_, .f32⟩ : BufTy).Contents (Elt F) → (⟨S2000000, .f32⟩ : BufTy).Contents (Elt F)),
    binary main_v1 main_v0 main_v2 (maximumf : (⟨S2000000, .f32⟩ : BufTy).Contents (Elt F) → (⟨S2000000, .f32⟩ : BufTy).Contents (Elt F) → (⟨S2000000, .f32⟩ : BufTy).Contents (Elt F)),
    unary main_v2 main_v3 (broadcastInDim S2000000x1 ![0] bcast_S2000000_S2000000x1_0 : (⟨S2000000, .f32⟩ : BufTy).Contents (Elt F) → (⟨S2000000x1, .f32⟩ : BufTy).Contents (Elt F)),
    unary main_v3 main_v4 (broadcastInDim S2000000x3 ![0, 1] bcast_S2000000x1_S2000000x3_0_1 : (⟨S2000000x1, .f32⟩ : BufTy).Contents (Elt F) → (⟨S2000000x3, .f32⟩ : BufTy).Contents (Elt F)),
    binary main_arg0 main_v4 main_v5 (subf : (⟨S2000000x3, .f32⟩ : BufTy).Contents (Elt F) → (⟨S2000000x3, .f32⟩ : BufTy).Contents (Elt F) → (⟨S2000000x3, .f32⟩ : BufTy).Contents (Elt F)),
    unary main_v5 main_v6 (Host.exp : (⟨S2000000x3, .f32⟩ : BufTy).Contents (Elt F) → (⟨S2000000x3, .f32⟩ : BufTy).Contents (Elt F)),
    nullary main_cst_1 (constant S_ .f32 0x00000000#32),
    binary main_v6 main_cst_1 main_v7 ((fun x v => Host.reduceAdd x v reducesTo_S2000000x3_S2000000_d1 h_S_) : (⟨S2000000x3, .f32⟩ : BufTy).Contents (Elt F) → (⟨S_, .f32⟩ : BufTy).Contents (Elt F) → (⟨S2000000, .f32⟩ : BufTy).Contents (Elt F)),
    unary main_v7 main_v8 (broadcastInDim S2000000x1 ![0] bcast_S2000000_S2000000x1_0 : (⟨S2000000, .f32⟩ : BufTy).Contents (Elt F) → (⟨S2000000x1, .f32⟩ : BufTy).Contents (Elt F)),
    unary main_v8 main_v9 (broadcastInDim S2000000x3 ![0, 1] bcast_S2000000x1_S2000000x3_0_1 : (⟨S2000000x1, .f32⟩ : BufTy).Contents (Elt F) → (⟨S2000000x3, .f32⟩ : BufTy).Contents (Elt F)),
    binary main_v6 main_v9 main_v10 (Host.divf : (⟨S2000000x3, .f32⟩ : BufTy).Contents (Elt F) → (⟨S2000000x3, .f32⟩ : BufTy).Contents (Elt F) → (⟨S2000000x3, .f32⟩ : BufTy).Contents (Elt F)),
    nullary main_cst_2 (constant S_ .f32 0xFF800000#32),
    binary main_v10 main_cst_2 main_v11 ((fun x v => Host.reduce FloatOps.maximumf x v reducesTo_S2000000x3_S2000000_d1 h_S_) : (⟨S2000000x3, .f32⟩ : BufTy).Contents (Elt F) → (⟨S_, .f32⟩ : BufTy).Contents (Elt F) → (⟨S2000000, .f32⟩ : BufTy).Contents (Elt F)),
    TRef.nullary (TRef.of (T := ⟨S2000000x3, .i32⟩) main_call0_v0) (iotaInDim S2000000x3 32 1),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S2000000x3, .f32⟩) main_v10) (TRef.of (T := ⟨S2000000x3, .i32⟩) main_call0_v0) (TRef.of (T := ⟨S_, .f32⟩) main_call0_cst) (TRef.of (T := ⟨S_, .i32⟩) main_call0_c) (TRef.of (T := ⟨S2000000, .f32⟩) main_call0_v1_0) (argVal (F := F)),
    TRef.quaternary (TRef.of (T := ⟨S2000000x3, .f32⟩) main_v10) (TRef.of (T := ⟨S2000000x3, .i32⟩) main_call0_v0) (TRef.of (T := ⟨S_, .f32⟩) main_call0_cst) (TRef.of (T := ⟨S_, .i32⟩) main_call0_c) (TRef.of (T := ⟨S2000000, .i32⟩) main_v12) (argIdx (F := F)),
    binary main_v12 main_arg1 main_v13 (cmpi .eq : (⟨S2000000, .i32⟩ : BufTy).Contents (Elt F) → (⟨S2000000, .i32⟩ : BufTy).Contents (Elt F) → (⟨S2000000, .i1⟩ : BufTy).Contents (Elt F)),
    unary main_v13 main_v14 (uitofp .f32 : (⟨S2000000, .i1⟩ : BufTy).Contents (Elt F) → (⟨S2000000, .f32⟩ : BufTy).Contents (Elt F)),
    nullary main_cst_3 (constant S_ .f32 0x00000000#32),
    nullary main_cst_4 (constant S_ .f32 0x3F800000#32),
    TRef.unary (TRef.of (T := ⟨S_, .f32⟩) main_cst_3) (TRef.of (T := ⟨S_, .f32⟩) main_call1_v0) id,
    TRef.unary (TRef.of (T := ⟨S_, .f32⟩) main_cst_4) (TRef.of (T := ⟨S_, .f32⟩) main_call1_v1) id,
    TRef.binary (TRef.of (T := ⟨S_, .f32⟩) main_call1_v1) (TRef.of (T := ⟨S_, .f32⟩) main_call1_v0) (TRef.of (T := ⟨S_, .f32⟩) main_call1_v2) subf,
    TRef.nullary (TRef.of (T := ⟨S_, .f32⟩) main_call1_cst) (constant S_ .f32 0x41700000#32),
    TRef.binary (TRef.of (T := ⟨S_, .f32⟩) main_call1_v2) (TRef.of (T := ⟨S_, .f32⟩) main_call1_cst) (TRef.of (T := ⟨S_, .f32⟩) main_call1_v3) Host.divf,
    TRef.nullary (TRef.of (T := ⟨S15, .f32⟩) main_call1_v4) (sitofp .f32 (iotaInDim S15 32 0)),
    TRef.nullary (TRef.of (T := ⟨S_, .f32⟩) main_call1_cst_0) (constant S_ .f32 0x41700000#32),
    TRef.unary (TRef.of (T := ⟨S_, .f32⟩) main_call1_cst_0) (TRef.of (T := ⟨S15, .f32⟩) main_call1_v5) (broadcastInDim S15 ![] bcast_S_S15),
    TRef.binary (TRef.of (T := ⟨S15, .f32⟩) main_call1_v4) (TRef.of (T := ⟨S15, .f32⟩) main_call1_v5) (TRef.of (T := ⟨S15, .f32⟩) main_call1_v6) Host.divf,
    TRef.reshape (TRef.of (T := ⟨S_, .f32⟩) main_call1_v0) (TRef.of (T := ⟨S1, .f32⟩) main_call1_v7) (rfl : (.f32 : EltTy) = .f32) shapeCasts_S_S1,
    TRef.nullary (TRef.of (T := ⟨S_, .f32⟩) main_call1_cst_1) (constant S_ .f32 0x3F800000#32),
    TRef.unary (TRef.of (T := ⟨S_, .f32⟩) main_call1_cst_1) (TRef.of (T := ⟨S15, .f32⟩) main_call1_v8) (broadcastInDim S15 ![] bcast_S_S15),
    TRef.binary (TRef.of (T := ⟨S15, .f32⟩) main_call1_v8) (TRef.of (T := ⟨S15, .f32⟩) main_call1_v6) (TRef.of (T := ⟨S15, .f32⟩) main_call1_v9) subf,
    TRef.unary (TRef.of (T := ⟨S1, .f32⟩) main_call1_v7) (TRef.of (T := ⟨S15, .f32⟩) main_call1_v10) (broadcastInDim S15 ![0] bcast_S1_S15_0),
    TRef.binary (TRef.of (T := ⟨S15, .f32⟩) main_call1_v10) (TRef.of (T := ⟨S15, .f32⟩) main_call1_v9) (TRef.of (T := ⟨S15, .f32⟩) main_call1_v11) mulf,
    TRef.reshape (TRef.of (T := ⟨S_, .f32⟩) main_call1_v1) (TRef.of (T := ⟨S1, .f32⟩) main_call1_v12) (rfl : (.f32 : EltTy) = .f32) shapeCasts_S_S1,
    TRef.unary (TRef.of (T := ⟨S1, .f32⟩) main_call1_v12) (TRef.of (T := ⟨S15, .f32⟩) main_call1_v13) (broadcastInDim S15 ![0] bcast_S1_S15_0),
    TRef.binary (TRef.of (T := ⟨S15, .f32⟩) main_call1_v13) (TRef.of (T := ⟨S15, .f32⟩) main_call1_v6) (TRef.of (T := ⟨S15, .f32⟩) main_call1_v14) mulf,
    TRef.binary (TRef.of (T := ⟨S15, .f32⟩) main_call1_v11) (TRef.of (T := ⟨S15, .f32⟩) main_call1_v14) (TRef.of (T := ⟨S15, .f32⟩) main_call1_v15) addf,
    TRef.unary (TRef.of (T := ⟨S_, .f32⟩) main_call1_v1) (TRef.of (T := ⟨S1, .f32⟩) main_call1_v16) (broadcastInDim S1 ![] bcast_S_S1),
    TRef.binary (TRef.of (T := ⟨S15, .f32⟩) main_call1_v15) (TRef.of (T := ⟨S1, .f32⟩) main_call1_v16) (TRef.of (T := ⟨S16, .f32⟩) main_v15) (join (F := F)),
    unary main_v15 main_v16 ((extractStridedSlice S15 ![0] · slices_S16_S15_0) : (⟨S16, .f32⟩ : BufTy).Contents (Elt F) → (⟨S15, .f32⟩ : BufTy).Contents (Elt F)),
    unary main_v15 main_v17 ((extractStridedSlice S15 ![1] · slices_S16_S15_1) : (⟨S16, .f32⟩ : BufTy).Contents (Elt F) → (⟨S15, .f32⟩ : BufTy).Contents (Elt F)),
    unary main_v11 main_v18 (broadcastInDim S1x2000000 ![1] bcast_S2000000_S1x2000000_1 : (⟨S2000000, .f32⟩ : BufTy).Contents (Elt F) → (⟨S1x2000000, .f32⟩ : BufTy).Contents (Elt F)),
    unary main_v16 main_v19 (broadcastInDim S15x1 ![0] bcast_S15_S15x1_0 : (⟨S15, .f32⟩ : BufTy).Contents (Elt F) → (⟨S15x1, .f32⟩ : BufTy).Contents (Elt F)),
    unary main_v18 main_v20 (broadcastInDim S15x2000000 ![0, 1] bcast_S1x2000000_S15x2000000_0_1 : (⟨S1x2000000, .f32⟩ : BufTy).Contents (Elt F) → (⟨S15x2000000, .f32⟩ : BufTy).Contents (Elt F)),
    unary main_v19 main_v21 (broadcastInDim S15x2000000 ![0, 1] bcast_S15x1_S15x2000000_0_1 : (⟨S15x1, .f32⟩ : BufTy).Contents (Elt F) → (⟨S15x2000000, .f32⟩ : BufTy).Contents (Elt F)),
    binary main_v20 main_v21 main_v22 (cmpf .ogt : (⟨S15x2000000, .f32⟩ : BufTy).Contents (Elt F) → (⟨S15x2000000, .f32⟩ : BufTy).Contents (Elt F) → (⟨S15x2000000, .i1⟩ : BufTy).Contents (Elt F)),
    unary main_v11 main_v23 (broadcastInDim S1x2000000 ![1] bcast_S2000000_S1x2000000_1 : (⟨S2000000, .f32⟩ : BufTy).Contents (Elt F) → (⟨S1x2000000, .f32⟩ : BufTy).Contents (Elt F)),
    unary main_v17 main_v24 (broadcastInDim S15x1 ![0] bcast_S15_S15x1_0 : (⟨S15, .f32⟩ : BufTy).Contents (Elt F) → (⟨S15x1, .f32⟩ : BufTy).Contents (Elt F)),
    unary main_v23 main_v25 (broadcastInDim S15x2000000 ![0, 1] bcast_S1x2000000_S15x2000000_0_1 : (⟨S1x2000000, .f32⟩ : BufTy).Contents (Elt F) → (⟨S15x2000000, .f32⟩ : BufTy).Contents (Elt F)),
    unary main_v24 main_v26 (broadcastInDim S15x2000000 ![0, 1] bcast_S15x1_S15x2000000_0_1 : (⟨S15x1, .f32⟩ : BufTy).Contents (Elt F) → (⟨S15x2000000, .f32⟩ : BufTy).Contents (Elt F)),
    binary main_v25 main_v26 main_v27 (cmpf .ole : (⟨S15x2000000, .f32⟩ : BufTy).Contents (Elt F) → (⟨S15x2000000, .f32⟩ : BufTy).Contents (Elt F) → (⟨S15x2000000, .i1⟩ : BufTy).Contents (Elt F)),
    binary main_v22 main_v27 main_v28 (andi : (⟨S15x2000000, .i1⟩ : BufTy).Contents (Elt F) → (⟨S15x2000000, .i1⟩ : BufTy).Contents (Elt F) → (⟨S15x2000000, .i1⟩ : BufTy).Contents (Elt F)),
    unary main_v28 main_v29 (uitofp .f32 : (⟨S15x2000000, .i1⟩ : BufTy).Contents (Elt F) → (⟨S15x2000000, .f32⟩ : BufTy).Contents (Elt F)),
    nullary main_cst_5 (constant S_ .f32 0x00000000#32),
    binary main_v29 main_cst_5 main_v30 ((fun x v => Host.reduceAdd x v reducesTo_S15x2000000_S15_d1 h_S_) : (⟨S15x2000000, .f32⟩ : BufTy).Contents (Elt F) → (⟨S_, .f32⟩ : BufTy).Contents (Elt F) → (⟨S15, .f32⟩ : BufTy).Contents (Elt F)),
    nullary main_cst_6 (constant S_ .f32 0x49F42400#32),
    unary main_cst_6 main_v31 (broadcastInDim S15 ![] bcast_S_S15 : (⟨S_, .f32⟩ : BufTy).Contents (Elt F) → (⟨S15, .f32⟩ : BufTy).Contents (Elt F)),
    binary main_v30 main_v31 main_v32 (Host.divf : (⟨S15, .f32⟩ : BufTy).Contents (Elt F) → (⟨S15, .f32⟩ : BufTy).Contents (Elt F) → (⟨S15, .f32⟩ : BufTy).Contents (Elt F)),
    nullary main_cst_7 (constant S_ .f32 0x3F800000#32),
    unary main_cst_7 main_v33 (broadcastInDim S15 ![] bcast_S_S15 : (⟨S_, .f32⟩ : BufTy).Contents (Elt F) → (⟨S15, .f32⟩ : BufTy).Contents (Elt F)),
    binary main_v30 main_v33 main_v34 (maximumf : (⟨S15, .f32⟩ : BufTy).Contents (Elt F) → (⟨S15, .f32⟩ : BufTy).Contents (Elt F) → (⟨S15, .f32⟩ : BufTy).Contents (Elt F)),
    nullary main_cst_8 (constant S_ .f32 0x00000000#32),
    TRef.unary (TRef.of (T := ⟨S_, .f32⟩) main_cst_8) (TRef.of (T := ⟨S_, .f32⟩) main_call2_v0) id,
    TRef.unary (TRef.of (T := ⟨S_, .f32⟩) main_call2_v0) (TRef.of (T := ⟨S2000000, .f32⟩) main_call2_v1) (broadcastInDim S2000000 ![] bcast_S_S2000000),
    TRef.unary (TRef.of (T := ⟨S2000000, .f32⟩) main_call2_v1) (TRef.of (T := ⟨S15x2000000, .f32⟩) main_call2_v2) (broadcastInDim S15x2000000 ![1] bcast_S2000000_S15x2000000_1),
    TRef.unary (TRef.of (T := ⟨S2000000, .f32⟩) main_v14) (TRef.of (T := ⟨S15x2000000, .f32⟩) main_call2_v3) (broadcastInDim S15x2000000 ![1] bcast_S2000000_S15x2000000_1),
    TRef.ternary (TRef.of (T := ⟨S15x2000000, .i1⟩) main_v28) (TRef.of (T := ⟨S15x2000000, .f32⟩) main_call2_v3) (TRef.of (T := ⟨S15x2000000, .f32⟩) main_call2_v2) (TRef.of (T := ⟨S15x2000000, .f32⟩) main_v35) select,
    nullary main_cst_9 (constant S_ .f32 0x00000000#32),
    binary main_v35 main_cst_9 main_v36 ((fun x v => Host.reduceAdd x v reducesTo_S15x2000000_S15_d1 h_S_) : (⟨S15x2000000, .f32⟩ : BufTy).Contents (Elt F) → (⟨S_, .f32⟩ : BufTy).Contents (Elt F) → (⟨S15, .f32⟩ : BufTy).Contents (Elt F)),
    binary main_v36 main_v34 main_v37 (Host.divf : (⟨S15, .f32⟩ : BufTy).Contents (Elt F) → (⟨S15, .f32⟩ : BufTy).Contents (Elt F) → (⟨S15, .f32⟩ : BufTy).Contents (Elt F)),
    nullary main_cst_10 (constant S_ .f32 0x00000000#32),
    TRef.unary (TRef.of (T := ⟨S_, .f32⟩) main_cst_10) (TRef.of (T := ⟨S_, .f32⟩) main_call3_v0) id,
    TRef.unary (TRef.of (T := ⟨S_, .f32⟩) main_call3_v0) (TRef.of (T := ⟨S2000000, .f32⟩) main_call3_v1) (broadcastInDim S2000000 ![] bcast_S_S2000000),
    TRef.unary (TRef.of (T := ⟨S2000000, .f32⟩) main_call3_v1) (TRef.of (T := ⟨S15x2000000, .f32⟩) main_call3_v2) (broadcastInDim S15x2000000 ![1] bcast_S2000000_S15x2000000_1),
    TRef.unary (TRef.of (T := ⟨S2000000, .f32⟩) main_v11) (TRef.of (T := ⟨S15x2000000, .f32⟩) main_call3_v3) (broadcastInDim S15x2000000 ![1] bcast_S2000000_S15x2000000_1),
    TRef.ternary (TRef.of (T := ⟨S15x2000000, .i1⟩) main_v28) (TRef.of (T := ⟨S15x2000000, .f32⟩) main_call3_v3) (TRef.of (T := ⟨S15x2000000, .f32⟩) main_call3_v2) (TRef.of (T := ⟨S15x2000000, .f32⟩) main_v38) select,
    nullary main_cst_11 (constant S_ .f32 0x00000000#32),
    binary main_v38 main_cst_11 main_v39 ((fun x v => Host.reduceAdd x v reducesTo_S15x2000000_S15_d1 h_S_) : (⟨S15x2000000, .f32⟩ : BufTy).Contents (Elt F) → (⟨S_, .f32⟩ : BufTy).Contents (Elt F) → (⟨S15, .f32⟩ : BufTy).Contents (Elt F)),
    binary main_v39 main_v34 main_v40 (Host.divf : (⟨S15, .f32⟩ : BufTy).Contents (Elt F) → (⟨S15, .f32⟩ : BufTy).Contents (Elt F) → (⟨S15, .f32⟩ : BufTy).Contents (Elt F)),
    binary main_v40 main_v37 main_v41 (subf : (⟨S15, .f32⟩ : BufTy).Contents (Elt F) → (⟨S15, .f32⟩ : BufTy).Contents (Elt F) → (⟨S15, .f32⟩ : BufTy).Contents (Elt F)),
    unary main_v41 main_v42 (Host.absf : (⟨S15, .f32⟩ : BufTy).Contents (Elt F) → (⟨S15, .f32⟩ : BufTy).Contents (Elt F)),
    binary main_v42 main_v32 main_v43 (mulf : (⟨S15, .f32⟩ : BufTy).Contents (Elt F) → (⟨S15, .f32⟩ : BufTy).Contents (Elt F) → (⟨S15, .f32⟩ : BufTy).Contents (Elt F)),
    nullary main_cst_12 (constant S_ .f32 0x00000000#32),
    unary main_cst_12 main_v44 (broadcastInDim S15 ![] bcast_S_S15 : (⟨S_, .f32⟩ : BufTy).Contents (Elt F) → (⟨S15, .f32⟩ : BufTy).Contents (Elt F)),
    binary main_v32 main_v44 main_v45 (cmpf .ogt : (⟨S15, .f32⟩ : BufTy).Contents (Elt F) → (⟨S15, .f32⟩ : BufTy).Contents (Elt F) → (⟨S15, .i1⟩ : BufTy).Contents (Elt F)),
    nullary main_cst_13 (constant S_ .f32 0x00000000#32),
    TRef.unary (TRef.of (T := ⟨S_, .f32⟩) main_cst_13) (TRef.of (T := ⟨S_, .f32⟩) main_call4_v0) id,
    TRef.unary (TRef.of (T := ⟨S_, .f32⟩) main_call4_v0) (TRef.of (T := ⟨S15, .f32⟩) main_call4_v1) (broadcastInDim S15 ![] bcast_S_S15),
    TRef.ternary (TRef.of (T := ⟨S15, .i1⟩) main_v45) (TRef.of (T := ⟨S15, .f32⟩) main_v43) (TRef.of (T := ⟨S15, .f32⟩) main_call4_v1) (TRef.of (T := ⟨S15, .f32⟩) main_v46) select,
    nullary main_cst_14 (constant S_ .f32 0x00000000#32),
    binary main_v46 main_cst_14 main_v47 ((fun x v => Host.reduceAdd x v reducesTo_S15_S_d0 h_S_) : (⟨S15, .f32⟩ : BufTy).Contents (Elt F) → (⟨S_, .f32⟩ : BufTy).Contents (Elt F) → (⟨S_, .f32⟩ : BufTy).Contents (Elt F)) ]

set_option maxRecDepth 8192 in
set_option maxHeartbeats 4000000 in
/-- @main is that line of operations. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub ..,
    binary_bufs_sub .., unary_bufs_sub .., nullary_bufs_sub .., binary_bufs_sub .., unary_bufs_sub .., unary_bufs_sub .., binary_bufs_sub ..,
    nullary_bufs_sub .., binary_bufs_sub .., nullary_bufs_sub .., nullary_bufs_sub .., nullary_bufs_sub .., quaternary_bufs_sub ..,
    quaternary_bufs_sub .., binary_bufs_sub .., unary_bufs_sub .., nullary_bufs_sub .., nullary_bufs_sub .., unary_bufs_sub .., unary_bufs_sub
    .., binary_bufs_sub .., nullary_bufs_sub .., binary_bufs_sub .., nullary_bufs_sub .., nullary_bufs_sub .., unary_bufs_sub ..,
    binary_bufs_sub .., reshape_bufs_sub .., nullary_bufs_sub .., unary_bufs_sub .., binary_bufs_sub .., unary_bufs_sub .., binary_bufs_sub ..,
    reshape_bufs_sub .., unary_bufs_sub .., binary_bufs_sub .., binary_bufs_sub .., unary_bufs_sub .., binary_bufs_sub .., unary_bufs_sub ..,
    unary_bufs_sub .., unary_bufs_sub .., unary_bufs_sub .., unary_bufs_sub .., unary_bufs_sub .., binary_bufs_sub .., unary_bufs_sub ..,
    unary_bufs_sub .., unary_bufs_sub .., unary_bufs_sub .., binary_bufs_sub .., binary_bufs_sub .., unary_bufs_sub .., nullary_bufs_sub ..,
    binary_bufs_sub .., nullary_bufs_sub .., unary_bufs_sub .., binary_bufs_sub .., nullary_bufs_sub .., unary_bufs_sub .., binary_bufs_sub ..,
    nullary_bufs_sub .., unary_bufs_sub .., unary_bufs_sub .., unary_bufs_sub .., unary_bufs_sub .., ternary_bufs_sub .., nullary_bufs_sub ..,
    binary_bufs_sub .., binary_bufs_sub .., nullary_bufs_sub .., unary_bufs_sub .., unary_bufs_sub .., unary_bufs_sub .., unary_bufs_sub ..,
    ternary_bufs_sub .., nullary_bufs_sub .., binary_bufs_sub .., binary_bufs_sub .., binary_bufs_sub .., unary_bufs_sub .., binary_bufs_sub ..,
    nullary_bufs_sub .., unary_bufs_sub .., binary_bufs_sub .., nullary_bufs_sub .., unary_bufs_sub .., unary_bufs_sub .., ternary_bufs_sub ..,
    nullary_bufs_sub .., binary_bufs_sub ..⟩

set_option maxRecDepth 8192 in
set_option maxHeartbeats 40000000 in
/-- From any memory with zero counters the reference terminates, its result the expected calibration error, its arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v47) = ece (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v47).trans (by
        simp only [ops, TRef.binary, TRef.nullary, TRef.reshape, TRef.ternary, TRef.quaternary, TRef.unary, TRef.toBuf, TRef.ofBuf, cast_eq]
        after_results_simp <;> rfl),
      (h c main_arg0).trans (by
        simp only [ops, TRef.binary, TRef.nullary, TRef.reshape, TRef.ternary, TRef.quaternary, TRef.unary, TRef.toBuf, TRef.ofBuf, cast_eq]
        after_results_simp <;> rfl),
      (h c main_arg1).trans (by
        simp only [ops, TRef.binary, TRef.nullary, TRef.reshape, TRef.ternary, TRef.quaternary, TRef.unary, TRef.toBuf, TRef.ofBuf, cast_eq]
        after_results_simp <;> rfl)⟩)
    (run_seq scopedRefs_eq scopedSems_eq defs main (fun _ => ops) main_eq (fun _ => ops_sub) m ρ)

end Cert.Proof.Ref

end
-- ==== Proof.Host.lean ====
/-
  The host's operations around the call, as two lines: before it (`preOps`) the bins' edges and the logits in one row, after it
  (`postOps`) the sums over subcores and lanes and the error from the 15 bins' sums. What the lines leave in the arrays that matter.
-/
module

public import proofs.«01_k».proof.Proof.TileBody
public import proofs.«01_k».proof.Proof.RefRun
public import Idealize.ShloMosaic.Lib.Pipeline.Frame

@[expose] public section

noncomputable section

namespace Cert.Proof.Tile

open Cert.KernelIdeal Cert.KernelIdeal.Gen Cert.Proof.Step

open Idealize.ShloMosaic Idealize.ShloMosaic.TcCoe Idealize.SL.Sem Idealize.ShloMosaic.StableHlo

variable {F : FTy → Type} [FloatOps F]

/-- The operations before the call. -/
abbrev preOps : List (HloOp τ sig (Elt F)) :=
  [ nullary main_cst (constant S_ .f32 0x00000000#32),
    nullary main_cst_0 (constant S_ .f32 0x3F800000#32),
    TRef.unary (TRef.of (T := ⟨S_, .f32⟩) main_cst) (TRef.of (T := ⟨S_, .f32⟩) main_call0_v0) id,
    TRef.unary (TRef.of (T := ⟨S_, .f32⟩) main_cst_0) (TRef.of (T := ⟨S_, .f32⟩) main_call0_v1) id,
    TRef.binary (TRef.of (T := ⟨S_, .f32⟩) main_call0_v1) (TRef.of (T := ⟨S_, .f32⟩) main_call0_v0) (TRef.of (T := ⟨S_, .f32⟩) main_call0_v2) subf,
    TRef.nullary (TRef.of (T := ⟨S_, .f32⟩) main_call0_cst) (constant S_ .f32 0x41700000#32),
    TRef.binary (TRef.of (T := ⟨S_, .f32⟩) main_call0_v2) (TRef.of (T := ⟨S_, .f32⟩) main_call0_cst) (TRef.of (T := ⟨S_, .f32⟩) main_call0_v3) Host.divf,
    TRef.nullary (TRef.of (T := ⟨S15, .f32⟩) main_call0_v4) (sitofp .f32 (iotaInDim S15 32 0)),
    TRef.nullary (TRef.of (T := ⟨S_, .f32⟩) main_call0_cst_0) (constant S_ .f32 0x41700000#32),
    TRef.unary (TRef.of (T := ⟨S_, .f32⟩) main_call0_cst_0) (TRef.of (T := ⟨S15, .f32⟩) main_call0_v5) (broadcastInDim S15 ![] bcast_S_S15),
    TRef.binary (TRef.of (T := ⟨S15, .f32⟩) main_call0_v4) (TRef.of (T := ⟨S15, .f32⟩) main_call0_v5) (TRef.of (T := ⟨S15, .f32⟩) main_call0_v6) Host.divf,
    TRef.reshape (TRef.of (T := ⟨S_, .f32⟩) main_call0_v0) (TRef.of (T := ⟨S1, .f32⟩) main_call0_v7) (rfl : (.f32 : EltTy) = .f32) shapeCasts_S_S1,
    TRef.nullary (TRef.of (T := ⟨S_, .f32⟩) main_call0_cst_1) (constant S_ .f32 0x3F800000#32),
    TRef.unary (TRef.of (T := ⟨S_, .f32⟩) main_call0_cst_1) (TRef.of (T := ⟨S15, .f32⟩) main_call0_v8) (broadcastInDim S15 ![] bcast_S_S15),
    TRef.binary (TRef.of (T := ⟨S15, .f32⟩) main_call0_v8) (TRef.of (T := ⟨S15, .f32⟩) main_call0_v6) (TRef.of (T := ⟨S15, .f32⟩) main_call0_v9) subf,
    TRef.unary (TRef.of (T := ⟨S1, .f32⟩) main_call0_v7) (TRef.of (T := ⟨S15, .f32⟩) main_call0_v10) (broadcastInDim S15 ![0] bcast_S1_S15_0),
    TRef.binary (TRef.of (T := ⟨S15, .f32⟩) main_call0_v10) (TRef.of (T := ⟨S15, .f32⟩) main_call0_v9) (TRef.of (T := ⟨S15, .f32⟩) main_call0_v11) mulf,
    TRef.reshape (TRef.of (T := ⟨S_, .f32⟩) main_call0_v1) (TRef.of (T := ⟨S1, .f32⟩) main_call0_v12) (rfl : (.f32 : EltTy) = .f32) shapeCasts_S_S1,
    TRef.unary (TRef.of (T := ⟨S1, .f32⟩) main_call0_v12) (TRef.of (T := ⟨S15, .f32⟩) main_call0_v13) (broadcastInDim S15 ![0] bcast_S1_S15_0),
    TRef.binary (TRef.of (T := ⟨S15, .f32⟩) main_call0_v13) (TRef.of (T := ⟨S15, .f32⟩) main_call0_v6) (TRef.of (T := ⟨S15, .f32⟩) main_call0_v14) mulf,
    TRef.binary (TRef.of (T := ⟨S15, .f32⟩) main_call0_v11) (TRef.of (T := ⟨S15, .f32⟩) main_call0_v14) (TRef.of (T := ⟨S15, .f32⟩) main_call0_v15) addf,
    TRef.unary (TRef.of (T := ⟨S_, .f32⟩) main_call0_v1) (TRef.of (T := ⟨S1, .f32⟩) main_call0_v16) (broadcastInDim S1 ![] bcast_S_S1),
    TRef.binary (TRef.of (T := ⟨S15, .f32⟩) main_call0_v15) (TRef.of (T := ⟨S1, .f32⟩) main_call0_v16) (TRef.of (T := ⟨S16, .f32⟩) main_v0) (Ref.join (F := F)),
    reshape main_arg0 main_v1 (rfl : (.f32 : EltTy) = .f32) shapeCasts_S2000000x3_S6000000 ]

/-- The operations after the call. -/
abbrev postOps : List (HloOp τ sig (Elt F)) :=
  [ reshape main_v2 main_v3 (rfl : (.f32 : EltTy) = .f32) shapeCasts_S32x720_S32x3x15x16,
    nullary main_cst_1 (constant S_ .f32 0x00000000#32),
    binary main_v3 main_cst_1 main_v4 ((fun x v => Host.reduceAdd x v reducesTo_S32x3x15x16_S3x15_d0_3 h_S_) : (⟨S32x3x15x16, .f32⟩ : BufTy).Contents (Elt F) → (⟨S_, .f32⟩ : BufTy).Contents (Elt F) → (⟨S3x15, .f32⟩ : BufTy).Contents (Elt F)),
    unary main_v4 main_v5 ((extractStridedSlice S1x15 ![0, 0] · slices_S3x15_S1x15_0_0) : (⟨S3x15, .f32⟩ : BufTy).Contents (Elt F) → (⟨S1x15, .f32⟩ : BufTy).Contents (Elt F)),
    reshape main_v5 main_v6 (rfl : (.f32 : EltTy) = .f32) shapeCasts_S1x15_S15,
    unary main_v4 main_v7 ((extractStridedSlice S1x15 ![1, 0] · slices_S3x15_S1x15_1_0) : (⟨S3x15, .f32⟩ : BufTy).Contents (Elt F) → (⟨S1x15, .f32⟩ : BufTy).Contents (Elt F)),
    reshape main_v7 main_v8 (rfl : (.f32 : EltTy) = .f32) shapeCasts_S1x15_S15,
    unary main_v4 main_v9 ((extractStridedSlice S1x15 ![2, 0] · slices_S3x15_S1x15_2_0) : (⟨S3x15, .f32⟩ : BufTy).Contents (Elt F) → (⟨S1x15, .f32⟩ : BufTy).Contents (Elt F)),
    reshape main_v9 main_v10 (rfl : (.f32 : EltTy) = .f32) shapeCasts_S1x15_S15,
    nullary main_cst_2 (constant S_ .f32 0x49F42400#32),
    unary main_cst_2 main_v11 (broadcastInDim S15 ![] bcast_S_S15 : (⟨S_, .f32⟩ : BufTy).Contents (Elt F) → (⟨S15, .f32⟩ : BufTy).Contents (Elt F)),
    binary main_v6 main_v11 main_v12 (Host.divf : (⟨S15, .f32⟩ : BufTy).Contents (Elt F) → (⟨S15, .f32⟩ : BufTy).Contents (Elt F) → (⟨S15, .f32⟩ : BufTy).Contents (Elt F)),
    nullary main_cst_3 (constant S_ .f32 0x3F800000#32),
    unary main_cst_3 main_v13 (broadcastInDim S15 ![] bcast_S_S15 : (⟨S_, .f32⟩ : BufTy).Contents (Elt F) → (⟨S15, .f32⟩ : BufTy).Contents (Elt F)),
    binary main_v6 main_v13 main_v14 (maximumf : (⟨S15, .f32⟩ : BufTy).Contents (Elt F) → (⟨S15, .f32⟩ : BufTy).Contents (Elt F) → (⟨S15, .f32⟩ : BufTy).Contents (Elt F)),
    binary main_v8 main_v14 main_v15 (Host.divf : (⟨S15, .f32⟩ : BufTy).Contents (Elt F) → (⟨S15, .f32⟩ : BufTy).Contents (Elt F) → (⟨S15, .f32⟩ : BufTy).Contents (Elt F)),
    binary main_v10 main_v14 main_v16 (Host.divf : (⟨S15, .f32⟩ : BufTy).Contents (Elt F) → (⟨S15, .f32⟩ : BufTy).Contents (Elt F) → (⟨S15, .f32⟩ : BufTy).Contents (Elt F)),
    binary main_v15 main_v16 main_v17 (subf : (⟨S15, .f32⟩ : BufTy).Contents (Elt F) → (⟨S15, .f32⟩ : BufTy).Contents (Elt F) → (⟨S15, .f32⟩ : BufTy).Contents (Elt F)),
    unary main_v17 main_v18 (Host.absf : (⟨S15, .f32⟩ : BufTy).Contents (Elt F) → (⟨S15, .f32⟩ : BufTy).Contents (Elt F)),
    binary main_v18 main_v12 main_v19 (mulf : (⟨S15, .f32⟩ : BufTy).Contents (Elt F) → (⟨S15, .f32⟩ : BufTy).Contents (Elt F) → (⟨S15, .f32⟩ : BufTy).Contents (Elt F)),
    nullary main_cst_4 (constant S_ .f32 0x00000000#32),
    unary main_cst_4 main_v20 (broadcastInDim S15 ![] bcast_S_S15 : (⟨S_, .f32⟩ : BufTy).Contents (Elt F) → (⟨S15, .f32⟩ : BufTy).Contents (Elt F)),
    binary main_v12 main_v20 main_v21 (cmpf .ogt : (⟨S15, .f32⟩ : BufTy).Contents (Elt F) → (⟨S15, .f32⟩ : BufTy).Contents (Elt F) → (⟨S15, .i1⟩ : BufTy).Contents (Elt F)),
    nullary main_cst_5 (constant S_ .f32 0x00000000#32),
    TRef.unary (TRef.of (T := ⟨S_, .f32⟩) main_cst_5) (TRef.of (T := ⟨S_, .f32⟩) main_call1_v0) id,
    TRef.unary (TRef.of (T := ⟨S_, .f32⟩) main_call1_v0) (TRef.of (T := ⟨S15, .f32⟩) main_call1_v1) (broadcastInDim S15 ![] bcast_S_S15),
    TRef.ternary (TRef.of (T := ⟨S15, .i1⟩) main_v21) (TRef.of (T := ⟨S15, .f32⟩) main_v19) (TRef.of (T := ⟨S15, .f32⟩) main_call1_v1) (TRef.of (T := ⟨S15, .f32⟩) main_v22) select,
    nullary main_cst_6 (constant S_ .f32 0x00000000#32),
    binary main_v22 main_cst_6 main_v23 ((fun x v => Host.reduceAdd x v reducesTo_S15_S_d0 h_S_) : (⟨S15, .f32⟩ : BufTy).Contents (Elt F) → (⟨S_, .f32⟩ : BufTy).Contents (Elt F) → (⟨S_, .f32⟩ : BufTy).Contents (Elt F)) ]

set_option maxRecDepth 8192 in
set_option maxHeartbeats 4000000 in
/-- @main is the first line, the call, and the second line. -/
theorem main_eq (d : Dev nD) : main (F := F) d = seq preOps >>= fun _ => (sc (F := F)).run d 0 >>= fun _ => seq postOps := rfl

set_option maxRecDepth 8192 in
/-- The first line touches arrays of the TensorCore only. -/
theorem preOps_sub : (preOps : List (HloOp τ sig (Elt F))).Forall fun op => op.bufs ⊆ tcRefs τ sig :=
  ⟨nullary_bufs_sub .., nullary_bufs_sub .., unary_bufs_sub .., unary_bufs_sub .., binary_bufs_sub .., nullary_bufs_sub .., binary_bufs_sub ..,
    nullary_bufs_sub .., nullary_bufs_sub .., unary_bufs_sub .., binary_bufs_sub .., reshape_bufs_sub .., nullary_bufs_sub .., unary_bufs_sub
    .., binary_bufs_sub .., unary_bufs_sub .., binary_bufs_sub .., reshape_bufs_sub .., unary_bufs_sub .., binary_bufs_sub .., binary_bufs_sub
    .., unary_bufs_sub .., binary_bufs_sub .., reshape_bufs_sub ..⟩

set_option maxRecDepth 8192 in
/-- So does the second. -/
theorem postOps_sub : (postOps : List (HloOp τ sig (Elt F))).Forall fun op => op.bufs ⊆ tcRefs τ sig :=
  ⟨reshape_bufs_sub .., nullary_bufs_sub .., binary_bufs_sub .., unary_bufs_sub .., reshape_bufs_sub .., unary_bufs_sub .., reshape_bufs_sub
    .., unary_bufs_sub .., reshape_bufs_sub .., nullary_bufs_sub .., unary_bufs_sub .., binary_bufs_sub .., nullary_bufs_sub .., unary_bufs_sub
    .., binary_bufs_sub .., binary_bufs_sub .., binary_bufs_sub .., binary_bufs_sub .., unary_bufs_sub .., binary_bufs_sub .., nullary_bufs_sub
    .., unary_bufs_sub .., binary_bufs_sub .., nullary_bufs_sub .., unary_bufs_sub .., unary_bufs_sub .., ternary_bufs_sub .., nullary_bufs_sub
    .., binary_bufs_sub ..⟩

set_option maxRecDepth 8192 in
/-- The first line makes no new array. -/
theorem preOps_fresh : (preOps : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩

set_option maxRecDepth 8192 in
/-- Nor does the second. -/
theorem postOps_fresh : (postOps : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩

/-- The logits in one row. -/
def flat (x : Vec F S2000000x3 .f32) : Vec F S6000000 .f32 := shapeCast S6000000 x shapeCasts_S2000000x3_S6000000

/-- The parts' sums over the subcores and the lanes: counts, confidences, hits. -/
def sums (p : Vec F S32x720 .f32) : Vec F S3x15 .f32 :=
  Host.reduceAdd (shapeCast S32x3x15x16 p shapeCasts_S32x720_S32x3x15x16) (constant S_ .f32 0x00000000#32) reducesTo_S32x3x15x16_S3x15_d0_3 h_S_

/-- The error from the parts. -/
def finish (p : Vec F S32x720 .f32) : Vec F S_ .f32 :=
  Ref.total (shapeCast S15 (extractStridedSlice S1x15 ![0, 0] (sums p) slices_S3x15_S1x15_0_0) shapeCasts_S1x15_S15)
    (shapeCast S15 (extractStridedSlice S1x15 ![1, 0] (sums p) slices_S3x15_S1x15_1_0) shapeCasts_S1x15_S15)
    (shapeCast S15 (extractStridedSlice S1x15 ![2, 0] (sums p) slices_S3x15_S1x15_2_0) shapeCasts_S1x15_S15)

set_option maxRecDepth 8192 in
set_option maxHeartbeats 40000000 in
/-- The first line leaves the logits in one row, the bins' edges, and the rest that matters as it was. -/
theorem pre_v1 (V : Valuation τ sig (Elt F)) : after preOps V (Proc.devRef .tc main_v1) = flat (V (Proc.devRef .tc main_arg0)) := by
  simp only [preOps, TRef.binary, TRef.nullary, TRef.reshape, TRef.ternary, TRef.unary, TRef.toBuf, TRef.ofBuf, cast_eq]
  after_results_simp <;> rfl
set_option maxRecDepth 8192 in
set_option maxHeartbeats 40000000 in
/-- The first line leaves the bins' edges. -/
theorem pre_v0 (V : Valuation τ sig (Elt F)) : after preOps V (Proc.devRef .tc main_v0) = (Ref.edges : Vec F S16 .f32) := by
  simp only [preOps, TRef.binary, TRef.nullary, TRef.reshape, TRef.ternary, TRef.unary, TRef.toBuf, TRef.ofBuf, cast_eq]
  after_results_simp <;> rfl
set_option maxRecDepth 8192 in
/-- It leaves the logits as they were. -/
theorem pre_arg0 (V : Valuation τ sig (Elt F)) : after preOps V (Proc.devRef .tc main_arg0) = V (Proc.devRef .tc main_arg0) := by
  simp only [preOps, TRef.binary, TRef.nullary, TRef.reshape, TRef.ternary, TRef.unary, TRef.toBuf, TRef.ofBuf, cast_eq]
  after_results_simp <;> rfl
set_option maxRecDepth 8192 in
/-- It leaves the labels as they were. -/
theorem pre_arg1 (V : Valuation τ sig (Elt F)) : after preOps V (Proc.devRef .tc main_arg1) = V (Proc.devRef .tc main_arg1) := by
  simp only [preOps, TRef.binary, TRef.nullary, TRef.reshape, TRef.ternary, TRef.unary, TRef.toBuf, TRef.ofBuf, cast_eq]
  after_results_simp <;> rfl

set_option maxRecDepth 8192 in
set_option maxHeartbeats 40000000 in
/-- The second line leaves the error from the parts, and the arguments as they were. -/
theorem post_v23 (V : Valuation τ sig (Elt F)) : after postOps V (Proc.devRef .tc main_v23) = finish (V (Proc.devRef .tc main_v2)) := by
  simp only [postOps, TRef.binary, TRef.nullary, TRef.reshape, TRef.ternary, TRef.unary, TRef.toBuf, TRef.ofBuf, cast_eq]
  after_results_simp <;> rfl
set_option maxRecDepth 8192 in
/-- The second line leaves the logits as they were. -/
theorem post_arg0 (V : Valuation τ sig (Elt F)) : after postOps V (Proc.devRef .tc main_arg0) = V (Proc.devRef .tc main_arg0) := by
  simp only [postOps, TRef.binary, TRef.nullary, TRef.reshape, TRef.ternary, TRef.unary, TRef.toBuf, TRef.ofBuf, cast_eq]
  after_results_simp <;> rfl
set_option maxRecDepth 8192 in
/-- It leaves the labels as they were. -/
theorem post_arg1 (V : Valuation τ sig (Elt F)) : after postOps V (Proc.devRef .tc main_arg1) = V (Proc.devRef .tc main_arg1) := by
  simp only [postOps, TRef.binary, TRef.nullary, TRef.reshape, TRef.ternary, TRef.unary, TRef.toBuf, TRef.ofBuf, cast_eq]
  after_results_simp <;> rfl

end Cert.Proof.Tile

end
-- ==== Proof.Launch.lean ====
/-
  The launch: what the call's handshakes carry — each subcore a share of the logits, the labels and the edges and its row of the
  parts —, how the arrays split among the subcores, @main on the TensorCore, and the run of the whole program.
-/
module

public import proofs.«01_k».proof.Proof.Host
public import Idealize.ShloMosaic.Lib.ShareLeaves

@[expose] public section

noncomputable section

namespace Cert.Proof.Tile

open Cert.KernelIdeal Cert.KernelIdeal.Gen Cert.Proof.Step

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Rounds
open Idealize.ShloMosaic.ShareLeaves (leaf pointsTo_leaves)
open Idealize.ShloMosaic.Tactic

variable {F : FTy → Type}

local notation "𝕄" => MT nD τ sig (HIx 1) (Elt F) ℕ UU ℕ
local notation "lV" => (Memref.whole Cert.KernelIdeal.main_v1_scv : Memref Cert.KernelIdeal.sig Kind.scVector Space.hbm Cert.KernelIdeal.S6000000 EltTy.f32)
local notation "bV" => (Memref.whole Cert.KernelIdeal.main_arg1_scv : Memref Cert.KernelIdeal.sig Kind.scVector Space.hbm Cert.KernelIdeal.S2000000 EltTy.i32)
local notation "tV" => (Memref.whole Cert.KernelIdeal.main_v0_scv : Memref Cert.KernelIdeal.sig Kind.scVector Space.hbm Cert.KernelIdeal.S16 EltTy.f32)
local notation "oV" => (Memref.whole Cert.KernelIdeal.main_v2_scv : Memref Cert.KernelIdeal.sig Kind.scVector Space.hbm Cert.KernelIdeal.S32x720 EltTy.f32)
local notation "s0" => (Memref.whole Cert.KernelIdeal.cc0_scratch0 : Memref Cert.KernelIdeal.sig Kind.scVector Space.vmem Cert.KernelIdeal.S6000 EltTy.f32)
local notation "s1" => (Memref.whole Cert.KernelIdeal.cc0_scratch1 : Memref Cert.KernelIdeal.sig Kind.scVector Space.vmem Cert.KernelIdeal.S2000 EltTy.i32)
local notation "s2" => (Memref.whole Cert.KernelIdeal.cc0_scratch2 : Memref Cert.KernelIdeal.sig Kind.scVector Space.vmem Cert.KernelIdeal.S16 EltTy.f32)
local notation "s3" => (Memref.whole Cert.KernelIdeal.cc0_scratch3 : Memref Cert.KernelIdeal.sig Kind.scVector Space.vmem Cert.KernelIdeal.S720 EltTy.f32)

variable [FloatOps F]

/-! ## The arrays of the call -/

/-- The logits in one row. -/
abbrev lLoc (d : Dev nD) : Loc nD τ sig := (d.tc : Thread nD τ).loc main_v1
/-- The labels. -/
abbrev bLoc (d : Dev nD) : Loc nD τ sig := (d.tc : Thread nD τ).loc main_arg1
/-- The bins' edges. -/
abbrev tLoc (d : Dev nD) : Loc nD τ sig := (d.tc : Thread nD τ).loc main_v0
/-- The parts. -/
abbrev oLoc (d : Dev nD) : Loc nD τ sig := (d.tc : Thread nD τ).loc main_v2
/-- The logits as given. -/
abbrev aLoc (d : Dev nD) : Loc nD τ sig := (d.tc : Thread nD τ).loc main_arg0
/-- The result. -/
abbrev rLoc (d : Dev nD) : Loc nD τ sig := (d.tc : Thread nD τ).loc main_v23

/-- The indices of row `w` of the parts. -/
def rowSet (w : Fin 32) : Finset S32x720.Idx := Finset.univ.filter fun y => (y 0).val = w.val

/-- Different rows of the parts share no element. -/
theorem rows_disjoint : ∀ i ∈ (Finset.univ : Finset (Fin 32)), ∀ j ∈ (Finset.univ : Finset (Fin 32)), i ≠ j → Disjoint (rowSet i) (rowSet j) := by
  intro i _ j _ h
  refine Finset.disjoint_left.mpr fun y hi hj => h (Fin.ext ?_)
  exact (Finset.mem_filter.mp hi).2.symm.trans (Finset.mem_filter.mp hj).2

/-- The rows are all of the parts. -/
theorem rows_cover : (Finset.univ : Finset (Fin 32)).biUnion rowSet = Finset.univ := by
  ext y
  simp only [Finset.mem_biUnion, Finset.mem_univ, true_and, iff_true]
  exact ⟨y 0, Finset.mem_filter.mpr ⟨Finset.mem_univ _, rfl⟩⟩

/-- The row the subcore at `i` addresses is row `2 * (i 1) + i 0`. -/
theorem set_oRowK (i : grid0.Coords) (w : Fin 32) (h : w.val = 2 * (i 1).val + (i 0).val) : (oRowK i).view.set = rowSet w := by
  ext y
  constructor
  · intro hy
    obtain ⟨x, -, rfl⟩ := Finset.mem_map.mp hy
    exact Finset.mem_filter.mpr ⟨Finset.mem_univ _, (oRowK_emb_row i x).trans h.symm⟩
  · intro hy
    refine Finset.mem_map.mpr ⟨fun | 0 => y 1, Finset.mem_univ _, ?_⟩
    refine funext fun a => Fin.ext ?_
    match a with
    | 0 => exact (oRowK_emb_row i _).trans (h.symm.trans (Finset.mem_filter.mp hy).2.symm)
    | 1 => exact oRowK_emb_col i _

variable (m : (ℓ : Loc nD τ sig) → Buf (Elt F) ℓ) (ρ : Dev nD → PrngReg)

/-! ## What the arrays hold when the call begins -/

/-- The arrays at the start. -/
abbrev V0 (d : Dev nD) : Valuation τ sig (Elt F) := fun b => m (d, b)
/-- The arrays when the call begins. -/
abbrev V1 (d : Dev nD) : Valuation τ sig (Elt F) := after preOps (V0 m d)
/-- The logits in one row. -/
abbrev Lg (d : Dev nD) : Vec F S6000000 .f32 := flat (m (aLoc d))
/-- The labels. -/
abbrev Lb (d : Dev nD) : Vec F S2000000 .i32 := m (bLoc d)
/-- The bins' edges. -/
abbrev Bt : Vec F S16 .f32 := Ref.edges
/-- What the parts hold when the call begins. -/
abbrev Fo (d : Dev nD) : Vec F S32x720 .f32 := V1 m d (Proc.devRef .tc main_v2)
/-- The parts the call leaves. -/
abbrev Pt (d : Dev nD) : Vec F S32x720 .f32 := parts (Lg m d) (Lb m d) Bt

/-- What subcore `w` holds: its shares of what it reads, and its row of the parts, at `f`. -/
abbrev res (d : Dev nD) (w : Fin 32) (f : Vec F S32x720 .f32) : sProp 𝕄 :=
  iprop((lLoc d ↦{leaf 5 fullShare w} Lg m d) ∗ (bLoc d ↦{leaf 5 fullShare w} Lb m d) ∗ (tLoc d ↦{leaf 5 fullShare w} (Bt : Vec F S16 .f32))
    ∗ (oLoc d ↦[rowSet w]{fullShare} f))

/-- The subcore of core `c` and number `i`. -/
abbrev wOf (i : Fin 16) (c : Fin 2) : Fin 32 := finProdFinEquiv (i, c)

/-- The call takes, per core, what its 16 subcores hold; each subcore its own; and brings them back, the rows filled. -/
def P : (K (F := F)).Pay (nD := nD) (Val := Elt F) (Name := ℕ) (U := UU) where
  st := fun q d c => match q with | 0 => bigSep Finset.univ fun i : Fin 16 => res m d (wOf i (Fin.cast nCore_zero c)) (Fo m d)
  dn := fun q d c => match q with | 0 => bigSep Finset.univ fun i : Fin 16 => res m d (wOf i (Fin.cast nCore_zero c)) (Pt m d)
  go := fun q d c i => match q with | 0 => res m d (wOf (Fin.cast nSub_zero i) (Fin.cast nCore_zero c)) (Fo m d)
  td := fun q d c i => match q with | 0 => res m d (wOf (Fin.cast nSub_zero i) (Fin.cast nCore_zero c)) (Pt m d)
  x := fun _ _ => iprop(emp)

instance P_storable : (P (F := F) m).IsStorable where
  st q d c := match q with
    | 0 => (inferInstance : BI.Storable (upEmb : UEmb _ 𝕄) (bigSep Finset.univ fun i : Fin 16 => res m d (wOf i (Fin.cast nCore_zero c)) (Fo m d)))
  dn q d c := match q with
    | 0 => (inferInstance : BI.Storable (upEmb : UEmb _ 𝕄) (bigSep Finset.univ fun i : Fin 16 => res m d (wOf i (Fin.cast nCore_zero c)) (Pt m d)))
  go q d c i := match q with
    | 0 => (inferInstance : BI.Storable (upEmb : UEmb _ 𝕄) (res m d (wOf (Fin.cast nSub_zero i) (Fin.cast nCore_zero c)) (Fo m d)))
  td q d c i := match q with
    | 0 => (inferInstance : BI.Storable (upEmb : UEmb _ 𝕄) (res m d (wOf (Fin.cast nSub_zero i) (Fin.cast nCore_zero c)) (Pt m d)))

/-- What the proof asks of the memory: every subcore's gathers and scatters stay within their arrays. -/
def PreOK : Prop := ∀ (d : Dev nD) (i : grid0.Coords), TileOk i (Lg m d) (Bt : Vec F S16 .f32)

/-! ## The obligation -/

/-- The coordinates of core `c` and subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- A vector subcore's task is the kernel's body at its coordinates. -/
theorem defs₀_vector (c : Fin τ.nSC) (s : Fin τ.nSub) :
    defs₀ (F := F) (.scVector c s) 0 ()
      = SparseCore.onTile hcore0 hsub0 (fun c s => cc0__ece_body (coordsV c s) lV (Memref.isWhole_whole _) bV (Memref.isWhole_whole _)
          tV (Memref.isWhole_whole _) oV (Memref.isWhole_whole _) s0 (Memref.isWhole_whole _) s1 (Memref.isWhole_whole _)
          s2 (Memref.isWhole_whole _) s3 (Memref.isWhole_whole _) cc0_scoped0 cc0_scoped1 cc0_scoped2 cc0_scoped3) ⟨⟩ c s := rfl

set_option maxRecDepth 16384 in
set_option maxHeartbeats 1000000 in
/-- Every subcore does its task. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have hset := set_oRowK (coordsV ⟨_, hci.1⟩ ⟨_, hci.2⟩) (wOf (Fin.cast nSub_zero i) (Fin.cast nCore_zero c))
    (by show c.val + 2 * i.val = 2 * i.val + c.val; omega)
  have key := tile_body d (coordsV ⟨_, hci.1⟩ ⟨_, hci.2⟩) hF (leaf 5 fullShare (wOf (Fin.cast nSub_zero i) (Fin.cast nCore_zero c)))
    (leaf 5 fullShare (wOf (Fin.cast nSub_zero i) (Fin.cast nCore_zero c))) (leaf 5 fullShare (wOf (Fin.cast nSub_zero i) (Fin.cast nCore_zero c)))
    (Lg m d) (Lb m d) (Bt : Vec F S16 .f32) (hpre d _) (Fo m d) O W hO
    (Q := fun _ => iprop(res m d (wOf (Fin.cast nSub_zero i) (Fin.cast nCore_zero c)) (Pt m d) ∗ scopedBufs (V d ((K (F := F)).core 0 c) ((K (F := F)).sub 0 i))
      ∗ scopedSems0 (V d ((K (F := F)).core 0 c) ((K (F := F)).sub 0 i))
      ∗ ∃ W', ⌜∀ p ∈ W', p ∈ W ∨ p.2 = none ∨ p.2 = some 0⌝ ∗ owes (V d ((K (F := F)).core 0 c) ((K (F := F)).sub 0 i)) O W'))
    (by
      rw [hset]
      iintro ⟨H, HB, HS, %W', %hW', HO⟩
      isplitl [H]; · iexact H
      isplitl [HB]; · iexact HB
      isplitl [HS]; · iexact HS
      iexists W'; isplitr
      · ipureintro; exact fun p hp => (hW' p hp).imp_right Or.inl
      · iexact HO)
  rw [hset] at key
  exact key

/-! ## The arrays split among the subcores -/

/-- A core's subcores, counted from 0 to 15. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- The cores, counted 0 and 1. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- What a core takes is what its subcores take, and likewise what it brings back. -/
theorem vecSplit : (K (F := F)).VecSplit' (P m) 0 := by
  intro d c
  show (bigSep Finset.univ fun i : Fin 16 => res m d (wOf i (Fin.cast nCore_zero c)) (Fo m d)) ⊢ |={Set.univ}=> iprop(
      (bigSep Finset.univ fun i : Fin ((K (F := F)).nSub 0) => res m d (wOf (Fin.cast nSub_zero i) (Fin.cast nCore_zero c)) (Fo m d))
      ∗ ((bigSep Finset.univ fun i : Fin ((K (F := F)).nSub 0) => res m d (wOf (Fin.cast nSub_zero i) (Fin.cast nCore_zero c)) (Pt m d))
          -∗ bigSep Finset.univ fun i : Fin 16 => res m d (wOf i (Fin.cast nCore_zero c)) (Pt m d)))
  rw [bigSep_tasks (F := F) (fun i => res m d (wOf i (Fin.cast nCore_zero c)) (Fo m d)),
    bigSep_tasks (F := F) (fun i => res m d (wOf i (Fin.cast nCore_zero c)) (Pt m d))]
  iintro H; imodintro
  isplitl [H]; · iexact H
  iintro H; iexact H

/-- The four arrays whole are the 32 subcores' resources, core by core. -/
theorem split_all (d : Dev nD) (f : Vec F S32x720 .f32) :
    (iprop((lLoc d ↦{fullShare} Lg m d) ∗ (bLoc d ↦{fullShare} Lb m d) ∗ (tLoc d ↦{fullShare} (Bt : Vec F S16 .f32)) ∗ (oLoc d ↦{fullShare} f)) : sProp 𝕄)
      = bigSep Finset.univ fun c : Fin 2 => bigSep Finset.univ fun i : Fin 16 => res m d (wOf i c) f := by
  rw [bigSep_univ_comm, ← bigSep_univ_prod (fun p : Fin 16 × Fin 2 => res m d (wOf p.1 p.2) f)]
  refine Eq.trans ?_ (bigSep_univ_equiv (finProdFinEquiv (m := 16) (n := 2)) (fun w : Fin 32 => res m d w f))
  unfold res
  rw [bigSep_sep', bigSep_sep', bigSep_sep', ← pointsTo_biUnion Finset.univ (ℓ := oLoc d) rowSet rows_disjoint, rows_cover,
    pointsTo_leaves (ℓ := lLoc d) Finset.univ (Lg m d) 5 fullShare, pointsTo_leaves (ℓ := bLoc d) Finset.univ (Lb m d) 5 fullShare,
    pointsTo_leaves (ℓ := tLoc d) Finset.univ (Bt : Vec F S16 .f32) 5 fullShare]
  rfl

/-- What the call takes, core by core. -/
theorem st0_eq (d : Dev nD) : (bigSep Finset.univ fun c : Fin ((K (F := F)).nCore 0) => (P m).st 0 d c)
    = iprop((lLoc d ↦{fullShare} Lg m d) ∗ (bLoc d ↦{fullShare} Lb m d) ∗ (tLoc d ↦{fullShare} (Bt : Vec F S16 .f32)) ∗ (oLoc d ↦{fullShare} Fo m d)) :=
  (bigSep_cores (F := F) fun c => bigSep Finset.univ fun i : Fin 16 => res m d (wOf i c) (Fo m d)).trans (split_all m d _).symm
/-- What the call brings back, core by core. -/
theorem dn0_eq (d : Dev nD) : (bigSep Finset.univ fun c : Fin ((K (F := F)).nCore 0) => (P m).dn 0 d c)
    = iprop((lLoc d ↦{fullShare} Lg m d) ∗ (bLoc d ↦{fullShare} Lb m d) ∗ (tLoc d ↦{fullShare} (Bt : Vec F S16 .f32)) ∗ (oLoc d ↦{fullShare} Pt m d)) :=
  (bigSep_cores (F := F) fun c => bigSep Finset.univ fun i : Fin 16 => res m d (wOf i c) (Pt m d)).trans (split_all m d _).symm

/-! ## The launch element of the ghost state -/

/-- The ghost state at the start. -/
def u₀ : UU := (initOf (K (F := F)).hsCells (K (F := F)).hsToks, 1)

theorem bigSep_emp' {I : Type} (s : Finset I) : (bigSep s fun _ => iprop(emp)) = (iprop(emp) : sProp 𝕄) := bigSep_emp_const s

/-- It gives the handshakes their cells and tokens. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

/-- The arrays of the call, and the arrays the claim speaks of. -/
abbrev T4 : Finset (DevRef τ sig) := {Proc.devRef .tc main_v1, Proc.devRef .tc main_arg1, Proc.devRef .tc main_v0, Proc.devRef .tc main_v2}
/-- The result and the arguments. -/
abbrev T3 : Finset (DevRef τ sig) := {Proc.devRef .tc main_v23, Proc.devRef .tc main_arg0, Proc.devRef .tc main_arg1}

theorem T4_sub : T4 ⊆ Pipeline.ucRefs τ sig := by decide
theorem T3_sub : T3 ⊆ Pipeline.ucRefs τ sig := by decide

/-- Holding the call's four arrays is holding each. -/
theorem held_T4 (d : Dev nD) (W : Valuation τ sig (Elt F)) : (held (d.tc : Thread nD τ) T4 W : sProp 𝕄)
    = iprop((lLoc d ↦{fullShare} W (Proc.devRef .tc main_v1)) ∗ (bLoc d ↦{fullShare} W (Proc.devRef .tc main_arg1))
      ∗ (tLoc d ↦{fullShare} W (Proc.devRef .tc main_v0)) ∗ (oLoc d ↦{fullShare} W (Proc.devRef .tc main_v2))) := by
  unfold held T4
  rw [SparseCore.bigSep_insert' (by decide), SparseCore.bigSep_insert' (by decide), SparseCore.bigSep_insert' (by decide), bigSep_singleton]
/-- Holding the result and the arguments is holding each. -/
theorem held_T3 (d : Dev nD) (W : Valuation τ sig (Elt F)) : (held (d.tc : Thread nD τ) T3 W : sProp 𝕄)
    = iprop((rLoc d ↦{fullShare} W (Proc.devRef .tc main_v23)) ∗ (aLoc d ↦{fullShare} W (Proc.devRef .tc main_arg0))
      ∗ (bLoc d ↦{fullShare} W (Proc.devRef .tc main_arg1))) := by
  unfold held T3
  rw [SparseCore.bigSep_insert' (by decide), SparseCore.bigSep_insert' (by decide), bigSep_singleton]

theorem V1_v1 (d : Dev nD) : V1 m d (Proc.devRef .tc main_v1) = Lg m d := pre_v1 _
theorem V1_v0 (d : Dev nD) : V1 m d (Proc.devRef .tc main_v0) = (Bt : Vec F S16 .f32) := pre_v0 _
theorem V1_arg1 (d : Dev nD) : V1 m d (Proc.devRef .tc main_arg1) = Lb m d := pre_arg1 _

/-- The arrays after the call. -/
def V2 (d : Dev nD) : Valuation τ sig (Elt F) := Function.update (V1 m d) (Proc.devRef .tc main_v2) (Pt m d)

/-- After the call the parts are the subcores' sums. -/
theorem V2_v2 (d : Dev nD) : V2 m d (Proc.devRef .tc main_v2) = Pt m d := Function.update_self ..
/-- After the call every other array is as before. -/
theorem V2_of_ne (d : Dev nD) {b : DevRef τ sig} (h : b ≠ Proc.devRef .tc main_v2) : V2 m d b = V1 m d b := Function.update_of_ne h ..
theorem V2_v1 (d : Dev nD) : V2 m d (Proc.devRef .tc main_v1) = Lg m d := (V2_of_ne m d (by decide)).trans (V1_v1 m d)
theorem V2_v0 (d : Dev nD) : V2 m d (Proc.devRef .tc main_v0) = (Bt : Vec F S16 .f32) := (V2_of_ne m d (by decide)).trans (V1_v0 m d)
theorem V2_arg1 (d : Dev nD) : V2 m d (Proc.devRef .tc main_arg1) = Lb m d := (V2_of_ne m d (by decide)).trans (V1_arg1 m d)
theorem V2_arg0 (d : Dev nD) : V2 m d (Proc.devRef .tc main_arg0) = m (aLoc d) := (V2_of_ne m d (by decide)).trans (pre_arg0 _)

theorem held_T4_V1 (d : Dev nD) : (held (d.tc : Thread nD τ) T4 (V1 m d) : sProp 𝕄)
    = iprop((lLoc d ↦{fullShare} Lg m d) ∗ (bLoc d ↦{fullShare} Lb m d) ∗ (tLoc d ↦{fullShare} (Bt : Vec F S16 .f32)) ∗ (oLoc d ↦{fullShare} Fo m d)) := by
  rw [held_T4, V1_v1, V1_v0, V1_arg1]
theorem held_T4_V2 (d : Dev nD) : (held (d.tc : Thread nD τ) T4 (V2 m d) : sProp 𝕄)
    = iprop((lLoc d ↦{fullShare} Lg m d) ∗ (bLoc d ↦{fullShare} Lb m d) ∗ (tLoc d ↦{fullShare} (Bt : Vec F S16 .f32)) ∗ (oLoc d ↦{fullShare} Pt m d)) := by
  rw [held_T4, V2_v1, V2_v0, V2_arg1, V2_v2]

/-- What the TensorCore holds at the end. -/
abbrev FIN (d : Dev nD) : sProp 𝕄 :=
  iprop((rLoc d ↦{fullShare} finish (Pt m d)) ∗ (aLoc d ↦{fullShare} m (aLoc d)) ∗ (bLoc d ↦{fullShare} m (bLoc d)))

/-- The last line leaves the error in the result and the arguments unchanged. -/
theorem held_T3_V2 (d : Dev nD) : (held (d.tc : Thread nD τ) T3 (after postOps (V2 m d)) : sProp 𝕄) = FIN m d := by
  rw [held_T3, post_v23, post_arg0, post_arg1, V2_v2, V2_arg0, V2_arg1]

set_option maxHeartbeats 1000000 in
/-- @main on device `d`: the first line, the call from the four arrays, the second line; the arguments kept, the error found. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((d.tc : Thread nD τ).loc b)) : sProp 𝕄) = held (d.tc : Thread nD τ) (Pipeline.ucRefs τ sig) (V0 m d)
    from Pipeline.unscopedBufs_held d (V0 m d)]
  iintro ⟨#Hctx, Hst, ⟨Hb, Hheld, Hts, -⟩, -⟩
  iapply (wp_seq 𝒱 none Set.univ d (Pipeline.ucRefs τ sig) _ preOps
    (fun op h => Pipeline.sub_ucRefs op ((List.forall_iff_forall_mem.mp preOps_sub) op h))
    (fun op h => (List.forall_iff_forall_mem.mp preOps_fresh) op h) (V0 m d)) $$ [Hb Hheld]
  · isplitl [Hb] <;> iassumption
  iintro ⟨Hb, Hheld⟩
  ihave Hheld := (Entails.of_eq (held_sub_split (d.tc : Thread nD τ) T4_sub (V1 m d))) $$ Hheld
  icases Hheld with ⟨H4, Hrest⟩
  ihave H4 := (Entails.of_eq (held_T4_V1 m d)) $$ H4
  rw [wp_bind]
  iapply ((K (F := F)).wp_run (D (F := F)) 𝒱 (EH := EH) (P := P m) κ d 0) $$ [Hst H4 Hrest Hb Hts]
  isplitr; · iexact Hctx
  isplitl [Hst]; · iexact Hst
  isplitl [H4]
  · rw [st0_eq]; iexact H4
  iintro ⟨Hst, Hdn⟩
  ihave H4 := (Entails.of_eq (dn0_eq m d)) $$ Hdn
  ihave H4 := (Entails.of_eq (held_T4_V2 m d).symm) $$ H4
  ihave Hrest := (Entails.of_eq (held_congr (d.tc : Thread nD τ) (S := Pipeline.ucRefs τ sig \ T4) (V := V1 m d) (V' := V2 m d)
    (fun b hb => (V2_of_ne m d (fun e => (Finset.mem_sdiff.mp hb).2 (by rw [e]; decide))).symm))) $$ Hrest
  ihave Hheld := (Entails.of_eq (held_sub_split (d.tc : Thread nD τ) T4_sub (V2 m d)).symm) $$ [H4 Hrest]
  · isplitl [H4] <;> iassumption
  rw [← bind_pure (seq postOps)]
  iapply (wp_seq 𝒱 none Set.univ d (Pipeline.ucRefs τ sig) _ postOps
    (fun op h => Pipeline.sub_ucRefs op ((List.forall_iff_forall_mem.mp postOps_sub) op h))
    (fun op h => (List.forall_iff_forall_mem.mp postOps_fresh) op h) (V2 m d)) $$ [Hb Hheld]
  · isplitl [Hb] <;> iassumption
  iintro ⟨Hb, Hheld⟩
  ihave Hheld := (Entails.of_eq (held_sub_split (d.tc : Thread nD τ) T3_sub (after postOps (V2 m d)))) $$ Hheld
  icases Hheld with ⟨H3, -⟩
  ihave H3 := (Entails.of_eq (held_T3_V2 m d)) $$ H3
  rw [wp_pure]
  imodintro
  isplitl [Hst]; · iexact Hst
  isplitl [H3]; · iexact H3
  isplitl [Hb] <;> iassumption

/-- What the memory says at the end. -/
def fq (d : Dev nD) (s' : Phys nD τ sig (Elt F)) : Prop :=
  s'.mem.mem (rLoc d) = finish (Pt m d) ∧ s'.mem.mem (aLoc d) = m (aLoc d) ∧ s'.mem.mem (bLoc d) = m (bLoc d)

set_option maxRecDepth 16384 in
/-- Holding the arrays at the end says what the memory holds. -/
theorem hfin (d : Dev nD) (s' : Phys nD τ sig (Elt F)) : iprop(FIN m d ∗ SI s') ⊢ (⌜fq m d s'⌝ : sProp 𝕄) := by
  iintro ⟨⟨Hr, Ha, Hb⟩, HSI⟩
  ihave H := (persistent_entails_right (SI_pointsTo_agree (st := s') (ℓ := rLoc d) (I := Finset.univ) (q := fullShare) (f := finish (Pt m d)))) $$ [HSI Hr]
  · isplitl [HSI] <;> iassumption
  icases H with ⟨%h1, HSI, -⟩
  ihave H := (persistent_entails_right (SI_pointsTo_agree (st := s') (ℓ := aLoc d) (I := Finset.univ) (q := fullShare) (f := m (aLoc d)))) $$ [HSI Ha]
  · isplitl [HSI] <;> iassumption
  icases H with ⟨%h2, HSI, -⟩
  ihave H := (SI_pointsTo_agree (st := s') (ℓ := bLoc d) (I := Finset.univ) (q := fullShare) (f := m (bLoc d))) $$ [HSI Hb]
  · isplitl [HSI] <;> iassumption
  icases H with %h3
  ipureintro
  exact ⟨funext fun i => h1 i (Finset.mem_univ i), funext fun i => h2 i (Finset.mem_univ i), funext fun i => h3 i (Finset.mem_univ i)⟩

/-! ## The run -/

/-- The end of a run: the error in the result, the arguments unchanged, every counter at zero. -/
def QC : PUnit × MemSt nD τ sig (Elt F) → Prop := fun r =>
  (∀ d : Dev nD, r.2.mem (rLoc d) = finish (Pt m d) ∧ r.2.mem (aLoc d) = m (aLoc d) ∧ r.2.mem (bLoc d) = m (bLoc d)) ∧ r.2.sem = fun _ => 0

/-- Every run ends with the error the parts give in the result, the arguments unchanged and every semaphore at zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Tile

end
-- ==== Proof.RowMath.lean ====
/-
  One row of logits, over the real numbers: its confidence (the largest of its softmax), its guess (the position of the largest
  logit, the first of equals), the bin its confidence falls in; and what the kernel's vector operations give of them lane by lane.
-/
module

public import proofs.«01_k».proof.Proof.Step
public import Idealize.ShloMosaic.PureOps.Ideal.Laws
public import Idealize.ShloMosaic.Lib.IdealHost

@[expose] public section

noncomputable section

namespace Cert.Proof.Row

open Cert.KernelIdeal Cert.KernelIdeal.Gen Cert.Proof.Step Idealize.ShloMosaic

/-! ## The row's numbers -/

/-- The largest of three logits. -/
def top (a b c : ℝ) : ℝ := max (max a b) c
/-- The sum of their exponentials, the largest logit taken off. -/
def mass (a b c : ℝ) : ℝ := Real.exp (a - top a b c) + Real.exp (b - top a b c) + Real.exp (c - top a b c)
/-- The confidence. -/
def cf (a b c : ℝ) : ℝ := 1 / mass a b c
/-- The guess. -/
def guess (a b c : ℝ) : BitVec 32 := if max a b < c then 2#32 else if a < b then 1#32 else 0#32
/-- The bin of a confidence: the `n` with `n / 15 < r ≤ (n + 1) / 15`. -/
def bin (r : ℝ) : ℕ := ⌈15 * r⌉₊ - 1

theorem le_top0 (a b c : ℝ) : a ≤ top a b c := (le_max_left _ _).trans (le_max_left _ _)
theorem le_top1 (a b c : ℝ) : b ≤ top a b c := (le_max_right _ _).trans (le_max_left _ _)
theorem le_top2 (a b c : ℝ) : c ≤ top a b c := le_max_right _ _
/-- The largest is one of the three. -/
theorem top_mem (a b c : ℝ) : top a b c = a ∨ top a b c = b ∨ top a b c = c := by
  unfold top
  rcases max_choice (max a b) c with h | h
  · rcases max_choice a b with h' | h' <;> rw [h, h'] <;> simp
  · rw [h]; simp

theorem exp_le_one' {x m : ℝ} (h : x ≤ m) : Real.exp (x - m) ≤ 1 := Real.exp_le_one_iff.mpr (by linarith)

/-- The sum is positive. -/
theorem mass_pos (a b c : ℝ) : 0 < mass a b c := by unfold mass; positivity
/-- It is at most three. -/
theorem mass_le (a b c : ℝ) : mass a b c ≤ 3 := by
  have h0 := exp_le_one' (le_top0 a b c)
  have h1 := exp_le_one' (le_top1 a b c)
  have h2 := exp_le_one' (le_top2 a b c)
  unfold mass; linarith
/-- It is at least one. -/
theorem one_le_mass (a b c : ℝ) : 1 ≤ mass a b c := by
  have h0 := Real.exp_pos (a - top a b c)
  have h1 := Real.exp_pos (b - top a b c)
  have h2 := Real.exp_pos (c - top a b c)
  unfold mass
  rcases top_mem a b c with h | h | h
  · have : Real.exp (a - top a b c) = 1 := by rw [h, sub_self, Real.exp_zero]
    linarith
  · have : Real.exp (b - top a b c) = 1 := by rw [h, sub_self, Real.exp_zero]
    linarith
  · have : Real.exp (c - top a b c) = 1 := by rw [h, sub_self, Real.exp_zero]
    linarith
/-- A confidence is at least a third. -/
theorem cf_ge (a b c : ℝ) : 1 / 3 ≤ cf a b c := one_div_le_one_div_of_le (mass_pos a b c) (mass_le a b c)
/-- A confidence is at most one. -/
theorem cf_le (a b c : ℝ) : cf a b c ≤ 1 := by
  unfold cf; rw [div_le_one (mass_pos a b c)]; exact one_le_mass a b c

/-- The bin is the one whose half-open interval holds the confidence. -/
theorem bin_iff {r : ℝ} (h : 1 / 3 ≤ r) (n : ℕ) : bin r = n ↔ ((n : ℝ) / 15 < r ∧ r ≤ ((n : ℝ) + 1) / 15) := by
  have hp : 0 < ⌈15 * r⌉₊ := Nat.ceil_pos.mpr (by linarith)
  have e : bin r = n ↔ ⌈15 * r⌉₊ = n + 1 := by unfold bin; omega
  rw [e, Nat.ceil_eq_iff (by omega)]
  push_cast
  constructor
  · rintro ⟨h1, h2⟩
    constructor
    · rw [div_lt_iff₀ (by norm_num)]; linarith
    · rw [le_div_iff₀ (by norm_num)]; linarith
  · rintro ⟨h1, h2⟩
    rw [div_lt_iff₀ (by norm_num)] at h1
    rw [le_div_iff₀ (by norm_num)] at h2
    constructor
    · linarith
    · linarith

/-- There are 15 bins. -/
theorem bin_lt {r : ℝ} (h : 1 / 3 ≤ r) (h' : r ≤ 1) : bin r < 15 := by
  have : ⌈15 * r⌉₊ ≤ 15 := Nat.ceil_le.mpr (by push_cast; linarith)
  unfold bin; omega

/-- The kernel's first guess of the bin. -/
def first (r : ℝ) : ℕ := min ⌊15 * r⌋₊ 14

/-- The first estimate is at most 14. -/
theorem first_le (r : ℝ) : first r ≤ 14 := min_le_right _ _

/-- The kernel's correction of the first guess: one less where the confidence does not exceed the lower edge, one more where it
    exceeds the upper edge. -/
theorem bin_of_first {r : ℝ} (h : 1 / 3 ≤ r) (h' : r ≤ 1) :
    ((first r : ℝ) < 15 * r ∧ 15 * r ≤ (first r : ℝ) + 1 ∧ bin r = first r) ∨
    (15 * r ≤ (first r : ℝ) ∧ 15 * r ≤ (first r : ℝ) + 1 ∧ bin r + 1 = first r) := by
  have hfl : (⌊15 * r⌋₊ : ℝ) ≤ 15 * r := Nat.floor_le (by linarith)
  have hlt : 15 * r < (⌊15 * r⌋₊ : ℝ) + 1 := Nat.lt_floor_add_one _
  have h5 : 5 ≤ ⌊15 * r⌋₊ := Nat.le_floor (by push_cast; linarith)
  by_cases hq : ⌊15 * r⌋₊ ≤ 14
  · have e : first r = ⌊15 * r⌋₊ := min_eq_left hq
    rw [e]
    rcases hfl.lt_or_eq with hl | he
    · left
      refine ⟨hl, hlt.le, (bin_iff h _).mpr ⟨?_, ?_⟩⟩
      · rw [div_lt_iff₀ (by norm_num)]; linarith
      · rw [le_div_iff₀ (by norm_num)]; linarith
    · right
      refine ⟨he.ge, by linarith, ?_⟩
      have : bin r = ⌊15 * r⌋₊ - 1 := (bin_iff h _).mpr (by
        rw [Nat.cast_sub (by omega)]
        constructor
        · rw [div_lt_iff₀ (by norm_num)]; push_cast; linarith
        · rw [le_div_iff₀ (by norm_num)]; push_cast; linarith)
      omega
  · have e : first r = 14 := min_eq_right (by omega)
    have h15 : (15 : ℝ) ≤ ⌊15 * r⌋₊ := by exact_mod_cast (show 15 ≤ ⌊15 * r⌋₊ by omega)
    left
    rw [e]
    refine ⟨by push_cast; linarith, by push_cast; linarith, (bin_iff h _).mpr ⟨?_, ?_⟩⟩
    · rw [div_lt_iff₀ (by norm_num)]; push_cast; linarith
    · rw [le_div_iff₀ (by norm_num)]; push_cast; linarith

/-! ## Extended reals that are real -/

theorem ofBits_fifteen : Ideal.ofBits .f32 0x41700000#32 = ((15 : ℝ) : EReal) := by
  simp [Ideal.ofBits, Ideal.ieee, -EReal.coe_mul]; norm_num

theorem ofBits_neg_inf : Ideal.ofBits .f32 0xFF800000#32 = ⊥ := by
  simp [Ideal.ofBits, Ideal.ieee]

theorem exp_coe (r : ℝ) : Ideal.exp (r : EReal) = ((Real.exp r : ℝ) : EReal) := rfl

theorem div_coe_coe {a b : ℝ} (h : b ≠ 0) : Ideal.div (a : EReal) (b : EReal) = ((a / b : ℝ) : EReal) := by
  rw [Ideal.div_coe h, ← EReal.coe_mul, mul_one_div]

theorem max_coe (a b : ℝ) : max (a : EReal) (b : EReal) = ((max a b : ℝ) : EReal) :=
  ((EReal.coe_strictMono.monotone).map_max).symm

/-! ## The kernel's lanes -/

section Lane

variable {v0 v1 v2 : FVec Ideal S16 .f32} {x : S16.Idx} {a b c : ℝ} (h0 : v0 x = (a : EReal)) (h1 : v1 x = (b : EReal)) (h2 : v2 x = (c : EReal))

include h0 h1 h2

/-- A lane's confidence. -/
theorem conf_lane : k0_pay10 (F := Ideal) v0 v1 v2 x = ((cf a b c : ℝ) : EReal) := by
  have e : k0_pay10 (F := Ideal) v0 v1 v2 x = Ideal.div (Ideal.ofBits .f32 0x3F800000#32)
    ((Ideal.exp (v0 x - max (max (v0 x) (v1 x)) (v2 x)) + Ideal.exp (v1 x - max (max (v0 x) (v1 x)) (v2 x)))
      + Ideal.exp (v2 x - max (max (v0 x) (v1 x)) (v2 x))) := rfl
  rw [e, h0, h1, h2, max_coe, max_coe, Ideal.ofBits_one_f32, ← EReal.coe_sub, ← EReal.coe_sub, ← EReal.coe_sub, exp_coe, exp_coe, exp_coe,
    ← EReal.coe_add, ← EReal.coe_add, ← EReal.coe_one]
  exact div_coe_coe (mass_pos a b c).ne'

/-- A lane's first estimate of its bin. -/
theorem bin0_lane : k0_pay12 (F := Ideal) v0 v1 v2 x = BitVec.ofNat 32 (first (cf a b c)) := by
  have e : k0_pay12 (F := Ideal) v0 v1 v2 x = IntOp.minsi (Ideal.fptosi 32 (k0_pay10 (F := Ideal) v0 v1 v2 x * Ideal.ofBits .f32 0x41700000#32)) 14#32 := rfl
  rw [e, conf_lane h0 h1 h2, ofBits_fifteen, ← EReal.coe_mul, mul_comm (cf a b c)]
  have hge := cf_ge a b c
  have hle := cf_le a b c
  generalize cf a b c = r at *
  have hn : (⌊15 * r⌋₊ : ℤ) = ⌊15 * r⌋ := Int.natCast_floor_eq_floor (by linarith)
  have h15 : ⌊15 * r⌋₊ ≤ 15 := by
    have : ⌊15 * r⌋₊ ≤ ⌊(15 : ℝ)⌋₊ := Nat.floor_le_floor (by linarith)
    simpa using this
  have e2 : Ideal.fptosi 32 ((15 * r : ℝ) : EReal) = BitVec.ofNat 32 ⌊15 * r⌋₊ := by
    show BitVec.ofInt 32 (max _ (min _ (if 0 ≤ 15 * r then ⌊15 * r⌋ else ⌈15 * r⌉))) = _
    rw [if_pos (by linarith), ← hn, min_eq_right (by norm_num <;> omega), max_eq_right (by norm_num <;> omega)]
    exact BitVec.ofInt_natCast 32 _
  rw [e2]
  unfold first
  generalize ⌊15 * r⌋₊ = n at *
  interval_cases n <;> decide

/-- A lane's hit. -/
theorem accu_lane (w : IVec S16 32) : k0_pay11 (F := Ideal) v0 v1 v2 w x = if guess a b c = w x then (1 : EReal) else 0 := by
  have e : k0_pay11 (F := Ideal) v0 v1 v2 w x = Scalar.select (IntOp.cmpi .eq (Scalar.select (Ideal.cmp .ogt (v2 x) (max (v0 x) (v1 x))) 2#32
      (Scalar.select (Ideal.cmp .ogt (v1 x) (v0 x)) 1#32 0#32)) (w x)) (Ideal.ofBits .f32 0x3F800000#32) (Ideal.ofBits .f32 0x00000000#32) := rfl
  rw [e, h0, h1, h2, max_coe, Ideal.ofBits_one_f32, Ideal.ofBits_zero_f32]
  have k : Scalar.select (Ideal.cmp .ogt (c : EReal) ((max a b : ℝ) : EReal)) 2#32 (Scalar.select (Ideal.cmp .ogt (b : EReal) (a : EReal)) 1#32 0#32)
      = guess a b c := by
    unfold guess
    simp only [Ideal.cmp, Scalar.select, EReal.coe_lt_coe_iff]
    split_ifs <;> simp_all
  rw [k]
  simp only [IntOp.cmpi, Scalar.select]
  by_cases hg : guess a b c = w x
  · simp [hg]
  · simp [hg, beq_eq_false_iff_ne.mpr hg]

end Lane

/-- The lanes, counted. -/
theorem iota_lane (x : S16.Idx) : (iota .scVector S16 32 [0] iota_S16_d0_w32_scVector : IVec S16 32) x = BitVec.ofNat 32 (x 0).val := by
  simp [iota]

/-- The element of the first 240 sums a lane adds to: 16 times the bin, plus the lane. -/
theorem slot_lane {v : FVec Ideal S16 .f32} {q : IVec S16 32} {lo hi : Vec Ideal S16 .f32} {x : S16.Idx} {r : ℝ} (hr : 1 / 3 ≤ r) (hr' : r ≤ 1)
    (hv : v x = (r : EReal)) (hq : q x = BitVec.ofNat 32 (first r)) (hlo : lo x = (((first r : ℝ) / 15 : ℝ) : EReal))
    (hhi : hi x = ((((first r + 1 : ℕ) : ℝ) / 15 : ℝ) : EReal)) : k0_pay3 (F := Ideal) v q lo hi x = BitVec.ofNat 32 (16 * bin r + (x 0).val) := by
  have e : k0_pay3 (F := Ideal) v q lo hi x = (q x - Scalar.select (Ideal.cmp .ole (v x) (lo x)) 1#32 0#32
      + Scalar.select (Ideal.cmp .ogt (v x) (hi x)) 1#32 0#32) * 16#32 + BitVec.ofNat 32 (x 0).val := by
    rw [← iota_lane]; rfl
  have hx : (x 0).val < 16 := (x 0).isLt
  rw [e, hv, hq, hlo, hhi]
  have hf := first_le r
  have hup : ¬ (((first r + 1 : ℕ) : ℝ) / 15 < r) ↔ 15 * r ≤ (first r : ℝ) + 1 := by
    rw [not_lt, le_div_iff₀ (by norm_num)]; push_cast; constructor <;> intro <;> linarith
  have hdn : r ≤ (first r : ℝ) / 15 ↔ 15 * r ≤ (first r : ℝ) := by
    rw [le_div_iff₀ (by norm_num)]; constructor <;> intro <;> linarith
  simp only [Ideal.cmp, Scalar.select, EReal.coe_lt_coe_iff, EReal.coe_le_coe_iff]
  rcases bin_of_first hr hr' with ⟨k1, k2, k3⟩ | ⟨k1, k2, k3⟩
  · rw [decide_eq_false (hup.mpr k2), decide_eq_false (fun h => absurd (hdn.mp h) (not_le.mpr k1)), k3]
    generalize first r = n at hf
    generalize (x 0).val = l at hx
    apply BitVec.eq_of_toNat_eq
    simp [BitVec.toNat_add, BitVec.toNat_mul, BitVec.toNat_ofNat, BitVec.toNat_sub]
    omega
  · rw [decide_eq_false (hup.mpr k2), decide_eq_true (hdn.mpr k1), ← k3]
    rw [← k3] at hf
    generalize bin r = n at hf
    generalize (x 0).val = l at hx
    apply BitVec.eq_of_toNat_eq
    simp [BitVec.toNat_add, BitVec.toNat_mul, BitVec.toNat_ofNat, BitVec.toNat_sub]
    omega

end Cert.Proof.Row

end
-- ==== Proof.GroupValue.lean ====
/-
  What one group of sixteen rows does over the extended reals, when the logits are real numbers: its indices are all in range
  (`ok_of_real`), and each of the 720 sums grows by what the row of its lane contributes to its bin (`step_apply`).
-/
module

public import proofs.«01_k».proof.Proof.RowMath

@[expose] public section

noncomputable section

namespace Cert.Proof.Row

open Cert.KernelIdeal Cert.KernelIdeal.Gen Cert.Proof.Step Idealize.ShloMosaic

/-! ## Gather and scatter -/

/-- A gather reads the element that the index names. -/
theorem gat_apply {d : Fin 1 → ℕ} (f : Vec Ideal ⟨1, d⟩ .f32) (v : IVec S16 32) (h : InR d v) (x : S16.Idx) (p : (⟨1, d⟩ : Shape).Idx)
    (hp : (v x).toNat = (p 0).val) : gat f v x = f p := by
  rw [← gat_of f v h]
  show f _ = f _
  congr 1; funext a
  obtain rfl : a = 0 := Subsingleton.elim _ _
  exact Fin.ext hp

/-- Lane `l`. -/
def lane (l : ℕ) (hl : l < 16) : S16.Idx := fun a => ⟨l, by obtain rfl : a = 0 := Subsingleton.elim _ _; exact hl⟩

/-- A scatter that adds, at an element that no lane but `l` can name. -/
theorem sct_apply {d : Fin 1 → ℕ} (f : Vec Ideal ⟨1, d⟩ .f32) (v : IVec S16 32) (x : Vec Ideal S16 .f32) (h : InR d v)
    (p : (⟨1, d⟩ : Shape).Idx) (l : ℕ) (hl : l < 16) (huniq : ∀ y : S16.Idx, (v y).toNat = (p 0).val → (y 0).val = l) :
    sct f v x p = f p + (if (v (lane l hl)).toNat = (p 0).val then x (lane l hl) else (0 : EReal)) := by
  rw [← sct_of f v x h]
  have step1 : ∀ (ks : List (Fin 16)) (g : Vec Ideal ⟨1, d⟩ .f32),
      (ks.foldl (fun (g : Vec Ideal ⟨1, d⟩ .f32) (k : Fin 16) =>
        fun j => if (∀ a, (j a).val = (v (lane k.val k.isLt)).toNat) then
          (g (idxAt ![v] h (lane k.val k.isLt)) + x (lane k.val k.isLt) : EReal) else g j) g) p
      = g p + (ks.map fun k => if (v (lane k.val k.isLt)).toNat = (p 0).val then (x (lane k.val k.isLt) : EReal) else 0).sum := by
    intro ks
    induction ks with
    | nil => intro g; simp
    | cons k ks ih =>
      intro g
      rw [List.foldl_cons, ih, List.map_cons, List.sum_cons, ← add_assoc]
      congr 1
      by_cases hk : (v (lane k.val k.isLt)).toNat = (p 0).val
      · have e : ∀ a, (p a).val = (v (lane k.val k.isLt)).toNat := by
          intro a
          obtain rfl : a = 0 := Subsingleton.elim _ _
          exact hk.symm
        have e' : idxAt (s := ⟨1, d⟩) ![v] h (lane k.val k.isLt) = p := by
          funext a
          obtain rfl : a = 0 := Subsingleton.elim _ _
          exact Fin.ext hk
        rw [if_pos e, if_pos hk, e']
      · have e : ¬ ∀ a, (p a).val = (v (lane k.val k.isLt)).toNat := fun e => hk (e 0).symm
        rw [if_neg e, if_neg hk, add_zero]
  have step2 := step1 (List.finRange 16) f
  have e : storeIdx f ![v] x (fun _ => 1#1) true h = ((List.finRange 16).foldl (fun (g : Vec Ideal ⟨1, d⟩ .f32) (k : Fin 16) =>
        fun j => if (∀ a, (j a).val = (v (lane k.val k.isLt)).toNat) then
          (g (idxAt ![v] h (lane k.val k.isLt)) + x (lane k.val k.isLt) : EReal) else g j) f) := by
    unfold storeIdx
    show List.foldl _ f (List.finRange 16) = _
    congr 1
    funext g k j
    refine (congrFun (if_pos (rfl : (1#1 : BitVec 1) = 1)) j).trans ?_
    have : ∀ j : (⟨1, d⟩ : Shape).Idx, (∀ a, (j a).val = (idxAt (s := ⟨1, d⟩) ![v] h (lane k.val k.isLt) a).val) ↔
        (∀ a, (j a).val = (v (lane k.val k.isLt)).toNat) := by
      intro j
      refine forall_congr' fun a => ?_
      obtain rfl : a = 0 := Subsingleton.elim _ _
      exact Iff.rfl
    by_cases hj : ∀ a, (j a).val = (v (lane k.val k.isLt)).toNat
    · exact (ite_cond_eq_true _ _ (eq_true ((this j).mpr hj))).trans (ite_cond_eq_true _ _ (eq_true hj)).symm
    · exact (ite_cond_eq_false _ _ (eq_false fun h' => hj ((this j).mp h'))).trans (ite_cond_eq_false _ _ (eq_false hj)).symm
  rw [e, step2]
  congr 1
  rw [← List.ofFn_eq_map, List.sum_ofFn]
  rw [Finset.sum_eq_single (⟨l, hl⟩ : Fin 16)]
  · intro k _ hk
    rw [if_neg]
    intro h'
    exact hk (Fin.ext (huniq _ h'))
  · intro h'; exact absurd (Finset.mem_univ _) h'

/-! ## Rows -/

section Rows

variable (R : ℕ → ℝ) (N : ℕ → BitVec 32)

/-- The confidence of row `r` of the flat logits `R`, and its guess. -/
def cfAt (r : ℕ) : ℝ := cf (R (3 * r)) (R (3 * r + 1)) (R (3 * r + 2))
/-- The guess of row `r`. -/
def guessAt (r : ℕ) : BitVec 32 := guess (R (3 * r)) (R (3 * r + 1)) (R (3 * r + 2))

/-- What row `r` counts in its bin, for each of the three sums: itself, its confidence, its hit. -/
def val (s r : ℕ) : EReal := if s = 0 then 1 else if s = 1 then ((cfAt R r : ℝ) : EReal) else if guessAt R r = N r then 1 else 0

/-- What row `r` contributes to the sum `s` of bin `b`. -/
def ctr (s b r : ℕ) : EReal := if bin (cfAt R r) = b then val R N s r else 0

/-- A confidence is at least a third. -/
theorem cfAt_ge (r : ℕ) : 1 / 3 ≤ cfAt R r := cf_ge _ _ _
/-- A confidence is at most one. -/
theorem cfAt_le (r : ℕ) : cfAt R r ≤ 1 := cf_le _ _ _

variable {R N} {lg : Vec Ideal S6000 .f32} {lb : Vec Ideal S2000 .i32} {bt : Vec Ideal S16 .f32} {o : ℕ}
  (hlg : ∀ x : S6000.Idx, lg x = ((R (3 * o + (x 0).val) : ℝ) : EReal)) (hlb : ∀ x : S2000.Idx, lb x = N (o + (x 0).val))
  (hbt : ∀ x : S16.Idx, bt x = ((((x 0).val : ℝ) / 15 : ℝ) : EReal))

/-- An element of the chunk of logits. -/
def at6000 (n : ℕ) (h : n < 6000) : S6000.Idx := fun a => ⟨n, by obtain rfl : a = 0 := Subsingleton.elim _ _; exact h⟩

section

include hlg

/-- The group's first logits, lane by lane. -/
theorem l0_apply (g : Fin k0_t2_loop.trips) (x : S16.Idx) : l0 lg g x = ((R (3 * (o + 16 * g.val + (x 0).val)) : ℝ) : EReal) := by
  have hg : g.val < 125 := g.isLt
  have hx : (x 0).val < 16 := (x 0).isLt
  refine (gat_apply lg (ix0 g) (inR_ix0 g) x (at6000 (48 * g.val + 3 * (x 0).val) (by omega)) (ix0_toNat g x)).trans ((hlg _).trans ?_)
  congr 2
  show 3 * o + (48 * g.val + 3 * (x 0).val) = _
  omega

/-- The group's second logits. -/
theorem l1_apply (g : Fin k0_t2_loop.trips) (x : S16.Idx) : l1 lg g x = ((R (3 * (o + 16 * g.val + (x 0).val) + 1) : ℝ) : EReal) := by
  have hg : g.val < 125 := g.isLt
  have hx : (x 0).val < 16 := (x 0).isLt
  refine (gat_apply lg _ (inR_ix1 g) x (at6000 (48 * g.val + 3 * (x 0).val + 1) (by omega)) (ix1_toNat g x)).trans ((hlg _).trans ?_)
  congr 2
  show 3 * o + (48 * g.val + 3 * (x 0).val + 1) = _
  omega

/-- The group's third logits. -/
theorem l2_apply (g : Fin k0_t2_loop.trips) (x : S16.Idx) : l2 lg g x = ((R (3 * (o + 16 * g.val + (x 0).val) + 2) : ℝ) : EReal) := by
  have hg : g.val < 125 := g.isLt
  have hx : (x 0).val < 16 := (x 0).isLt
  refine (gat_apply lg _ (inR_ix2 g) x (at6000 (48 * g.val + 3 * (x 0).val + 2) (by omega)) (ix2_toNat g x)).trans ((hlg _).trans ?_)
  congr 2
  show 3 * o + (48 * g.val + 3 * (x 0).val + 2) = _
  omega

/-- The lanes' confidences. -/
theorem conf_apply (g : Fin k0_t2_loop.trips) (x : S16.Idx) : conf lg g x = ((cfAt R (o + 16 * g.val + (x 0).val) : ℝ) : EReal) :=
  conf_lane (l0_apply hlg g x) (l1_apply hlg g x) (l2_apply hlg g x)

/-- The lanes' first estimates of the bin. -/
theorem bin0_apply (g : Fin k0_t2_loop.trips) (x : S16.Idx) : bin0 lg g x = BitVec.ofNat 32 (first (cfAt R (o + 16 * g.val + (x 0).val))) :=
  bin0_lane (l0_apply hlg g x) (l1_apply hlg g x) (l2_apply hlg g x)

/-- The first estimate as a natural number. -/
theorem bin0_toNat (g : Fin k0_t2_loop.trips) (x : S16.Idx) : (bin0 lg g x).toNat = first (cfAt R (o + 16 * g.val + (x 0).val)) := by
  rw [bin0_apply hlg, BitVec.toNat_ofNat]
  exact Nat.mod_eq_of_lt (by have := first_le (cfAt R (o + 16 * g.val + (x 0).val)); omega)

/-- The first estimate and one, as a natural number. -/
theorem next_toNat (g : Fin k0_t2_loop.trips) (x : S16.Idx) :
    (k0_pay2 (bin0 lg g) 1#32 x).toNat = first (cfAt R (o + 16 * g.val + (x 0).val)) + 1 := by
  have e : k0_pay2 (bin0 lg g) 1#32 x = bin0 lg g x + 1#32 := rfl
  have := first_le (cfAt R (o + 16 * g.val + (x 0).val))
  rw [e, BitVec.toNat_add, bin0_toNat hlg, BitVec.toNat_ofNat]
  omega

/-- The first estimate names one of the 16 boundaries. -/
theorem inR_bin0 (g : Fin k0_t2_loop.trips) : InR S16.size (bin0 lg g) := InR.mk fun x => by
  rw [bin0_toNat hlg]
  have := first_le (cfAt R (o + 16 * g.val + (x 0).val))
  show _ < 16; omega

/-- So does the next number. -/
theorem inR_next (g : Fin k0_t2_loop.trips) : InR S16.size (k0_pay2 (bin0 lg g) 1#32) := InR.mk fun x => by
  rw [next_toNat hlg]
  have := first_le (cfAt R (o + 16 * g.val + (x 0).val))
  show _ < 16; omega

include hbt

/-- A lane's slot for the counts: sixteen times its row's bin, and the lane. -/
theorem slot_toNat (g : Fin k0_t2_loop.trips) (x : S16.Idx) :
    (slot lg bt g x).toNat = 16 * bin (cfAt R (o + 16 * g.val + (x 0).val)) + (x 0).val := by
  have hx : (x 0).val < 16 := (x 0).isLt
  have hf := first_le (cfAt R (o + 16 * g.val + (x 0).val))
  have hb := bin_lt (cfAt_ge R (o + 16 * g.val + (x 0).val)) (cfAt_le R _)
  have e : slot lg bt g x = BitVec.ofNat 32 (16 * bin (cfAt R (o + 16 * g.val + (x 0).val)) + (x 0).val) :=
    slot_lane (cfAt_ge R (o + 16 * g.val + (x 0).val)) (cfAt_le R _) (conf_apply hlg g x) (bin0_apply hlg g x)
      ((gat_apply bt _ (inR_bin0 hlg g) x (lane _ (by omega)) (bin0_toNat hlg g x)).trans (hbt _))
      ((gat_apply bt _ (inR_next hlg g) x (lane _ (by omega)) (next_toNat hlg g x)).trans (hbt _))
  rw [e, BitVec.toNat_ofNat]
  omega

/-- A lane's slot for the confidences. -/
theorem slot240_toNat (g : Fin k0_t2_loop.trips) (x : S16.Idx) :
    (k0_pay4 (slot lg bt g) x).toNat = 240 + 16 * bin (cfAt R (o + 16 * g.val + (x 0).val)) + (x 0).val := by
  have e : k0_pay4 (slot lg bt g) x = slot lg bt g x + 240#32 := rfl
  have hx : (x 0).val < 16 := (x 0).isLt
  have hb := bin_lt (cfAt_ge R (o + 16 * g.val + (x 0).val)) (cfAt_le R _)
  rw [e, BitVec.toNat_add, slot_toNat hlg hbt, BitVec.toNat_ofNat]
  omega

/-- A lane's slot for the hits. -/
theorem slot480_toNat (g : Fin k0_t2_loop.trips) (x : S16.Idx) :
    (k0_pay5 (slot lg bt g) x).toNat = 480 + 16 * bin (cfAt R (o + 16 * g.val + (x 0).val)) + (x 0).val := by
  have e : k0_pay5 (slot lg bt g) x = slot lg bt g x + 480#32 := rfl
  have hx : (x 0).val < 16 := (x 0).isLt
  have hb := bin_lt (cfAt_ge R (o + 16 * g.val + (x 0).val)) (cfAt_le R _)
  rw [e, BitVec.toNat_add, slot_toNat hlg hbt, BitVec.toNat_ofNat]
  omega

/-- For real logits every index of the group is in range. -/
theorem ok_of_real (g : Fin k0_t2_loop.trips) : Ok lg bt g where
  b0 := inR_bin0 hlg g
  b1 := inR_next hlg g
  s0 := InR.mk fun x => by
    rw [slot_toNat hlg hbt]
    have hx : (x 0).val < 16 := (x 0).isLt
    have hb := bin_lt (cfAt_ge R (o + 16 * g.val + (x 0).val)) (cfAt_le R _)
    show _ < 720; omega
  s1 := InR.mk fun x => by
    rw [slot240_toNat hlg hbt]
    have hx : (x 0).val < 16 := (x 0).isLt
    have hb := bin_lt (cfAt_ge R (o + 16 * g.val + (x 0).val)) (cfAt_le R _)
    show _ < 720; omega
  s2 := InR.mk fun x => by
    rw [slot480_toNat hlg hbt]
    have hx : (x 0).val < 16 := (x 0).isLt
    have hb := bin_lt (cfAt_ge R (o + 16 * g.val + (x 0).val)) (cfAt_le R _)
    show _ < 720; omega

end

/-- The lanes' hits: one where the guess is the label, zero elsewhere. -/
theorem accu_apply {R : ℕ → ℝ} {N : ℕ → BitVec 32} {lg : Vec Ideal S6000 .f32} {lb : Vec Ideal S2000 .i32} {o : ℕ}
    (hlg : ∀ x : S6000.Idx, lg x = ((R (3 * o + (x 0).val) : ℝ) : EReal)) (hlb : ∀ x : S2000.Idx, lb x = N (o + (x 0).val))
    (g : Fin k0_t2_loop.trips) (x : S16.Idx) :
    accu lg lb g x = if guessAt R (o + 16 * g.val + (x 0).val) = N (o + 16 * g.val + (x 0).val) then (1 : EReal) else 0 := by
  have hn : lbs lb g x = N (o + 16 * g.val + (x 0).val) := by
    unfold lbs; rw [hlb, add_assoc]
  have h := accu_lane (l0_apply hlg g x) (l1_apply hlg g x) (l2_apply hlg g x) (lbs lb g)
  rw [hn] at h
  exact h

/-- The group adds, to the sum `s` of bin `b` in lane `l`, what the row of lane `l` contributes. -/
theorem step_apply {R : ℕ → ℝ} {N : ℕ → BitVec 32} {lg : Vec Ideal S6000 .f32} {lb : Vec Ideal S2000 .i32} {bt : Vec Ideal S16 .f32} {o : ℕ}
    (hlg : ∀ x : S6000.Idx, lg x = ((R (3 * o + (x 0).val) : ℝ) : EReal)) (hlb : ∀ x : S2000.Idx, lb x = N (o + (x 0).val))
    (hbt : ∀ x : S16.Idx, bt x = ((((x 0).val : ℝ) / 15 : ℝ) : EReal))
    (g : Fin k0_t2_loop.trips) (acc : Vec Ideal S720 .f32) (p : S720.Idx) (s b l : ℕ) (hs : s < 3) (hb : b < 15) (hl : l < 16)
    (hp : (p 0).val = 240 * s + 16 * b + l) :
    step lg lb bt g acc p = acc p + ctr R N s b (o + 16 * g.val + l) := by
  have ok := ok_of_real hlg hbt g
  have hbin : ∀ x : S16.Idx, bin (cfAt R (o + 16 * g.val + (x 0).val)) < 15 := fun x => bin_lt (cfAt_ge R _) (cfAt_le R _)
  have hlane : ∀ x : S16.Idx, (x 0).val < 16 := fun x => (x 0).isLt
  have hbl := hbin (lane l hl)
  have el : ((lane l hl) 0).val = l := rfl
  rw [el] at hbl
  unfold step
  rw [sct_apply _ _ _ ok.s2 p l hl (fun y hy => by
      rw [slot480_toNat hlg hbt, hp] at hy; have := hbin y; have := hlane y; omega),
    sct_apply _ _ _ ok.s1 p l hl (fun y hy => by
      rw [slot240_toNat hlg hbt, hp] at hy; have := hbin y; have := hlane y; omega),
    sct_apply _ _ _ ok.s0 p l hl (fun y hy => by
      rw [slot_toNat hlg hbt, hp] at hy; have := hbin y; have := hlane y; omega),
    slot_toNat hlg hbt, slot240_toNat hlg hbt, slot480_toNat hlg hbt, hp, conf_apply hlg, el, add_assoc, add_assoc]
  congr 1
  have ea : accu lg lb g (lane l hl) = if guessAt R (o + 16 * g.val + l) = N (o + 16 * g.val + l) then (1 : EReal) else 0 :=
    accu_apply hlg hlb g (lane l hl)
  have e1 : (k0_pay14 : FVec Ideal S16 .f32) (lane l hl) = (1 : EReal) := by
    show Ideal.ofBits .f32 0x3F800000#32 = 1
    exact Ideal.ofBits_one_f32
  rw [ea, e1]
  unfold ctr val
  generalize bin (cfAt R (o + 16 * g.val + l)) = n at *
  obtain rfl | rfl | rfl : s = 0 ∨ s = 1 ∨ s = 2 := by omega
  · have k1 : ¬ 240 + 16 * n + l = 240 * 0 + 16 * b + l := by omega
    have k2 : ¬ 480 + 16 * n + l = 240 * 0 + 16 * b + l := by omega
    have k0 : (16 * n + l = 240 * 0 + 16 * b + l) ↔ n = b := by omega
    simp only [if_neg k1, if_neg k2, k0, add_zero, if_true]
  · have k1 : (240 + 16 * n + l = 240 * 1 + 16 * b + l) ↔ n = b := by omega
    have k2 : ¬ 480 + 16 * n + l = 240 * 1 + 16 * b + l := by omega
    have k0 : ¬ (16 * n + l = 240 * 1 + 16 * b + l) := by omega
    simp only [if_neg k0, if_neg k2, k1, add_zero, zero_add, if_true, one_ne_zero, if_false]
  · have k1 : ¬ (240 + 16 * n + l = 240 * 2 + 16 * b + l) := by omega
    have k2 : (480 + 16 * n + l = 240 * 2 + 16 * b + l) ↔ n = b := by omega
    have k0 : ¬ (16 * n + l = 240 * 2 + 16 * b + l) := by omega
    simp only [if_neg k0, if_neg k1, k2, zero_add, OfNat.ofNat_ne_zero, OfNat.ofNat_ne_one, if_false]

end Rows

end Cert.Proof.Row

end
-- ==== Proof.KernelValue.lean ====
/-
  The kernel's sums over the extended reals, for real logits: the sum `s` of bin `b`, over the subcores and the lanes, is the sum over
  all two million rows of what each contributes to it (`sums_parts`). And every index of every group of every subcore is in range
  (`tileOk_of_real`).
-/
module

public import proofs.«01_k».proof.Proof.GroupValue
public import proofs.«01_k».proof.Proof.Host
public import Idealize.ShloMosaic.Lib.Pipeline.Value
public import Idealize.ShloMosaic.Lib.Pointwise.Reduce

@[expose] public section

noncomputable section

namespace Cert.Proof.Row

open Cert.KernelIdeal Cert.KernelIdeal.Gen Cert.Proof.Step Idealize.ShloMosaic Finset

/-! ## Sums over ranges -/

section Range

variable {M : Type} [AddCommMonoid M] (f : ℕ → M)

/-- A sum over blocks of `m` and the places in a block is the sum over all. -/
theorem sum_blocks (n m : ℕ) : ∑ i ∈ range n, ∑ j ∈ range m, f (m * i + j) = ∑ k ∈ range (m * n), f k := by
  induction n with
  | zero => simp
  | succ n ih => rw [sum_range_succ, ih, Nat.mul_succ, sum_range_add]

/-- A sum over the places of every stride is the sum over all. -/
theorem sum_strides (n m : ℕ) : ∑ j ∈ range m, ∑ i ∈ range n, f (j + m * i) = ∑ k ∈ range (m * n), f k := by
  rw [sum_comm, ← sum_blocks]
  simp only [add_comm]

/-- Terms that are zero from `m` on leave the sum up to `m`. -/
theorem sum_cut (n m : ℕ) (h : m ≤ n) : (∑ k ∈ range n, if k < m then f k else 0) = ∑ k ∈ range m, f k := by
  rw [← sum_filter]
  refine sum_congr ?_ fun _ _ => rfl
  ext k; simp only [mem_filter, mem_range]; omega

/-- The rows, taken subcore by subcore, lane by lane, trip by trip and group by group. -/
theorem sum_rows :
    (∑ w ∈ range 32, ∑ l ∈ range 16, ∑ t ∈ range 32,
      if w + 32 * t < 1000 then ∑ g ∈ range 125, f (2000 * (w + 32 * t) + 16 * g + l) else 0) = ∑ r ∈ range 2000000, f r := by
  have e1 : ∀ w : ℕ, (∑ l ∈ range 16, ∑ t ∈ range 32,
      if w + 32 * t < 1000 then ∑ g ∈ range 125, f (2000 * (w + 32 * t) + 16 * g + l) else 0)
      = ∑ t ∈ range 32, if w + 32 * t < 1000 then ∑ k ∈ range 2000, f (2000 * (w + 32 * t) + k) else 0 := by
    intro w
    rw [sum_comm]
    refine sum_congr rfl fun t _ => ?_
    by_cases h : w + 32 * t < 1000
    · simp only [if_pos h]
      rw [sum_comm]
      have := sum_blocks (fun k => f (2000 * (w + 32 * t) + k)) 125 16
      rw [← this]
      simp only [add_assoc]
    · simp only [if_neg h, sum_const_zero]
  rw [sum_congr rfl fun w _ => e1 w,
    sum_strides (fun c => if c < 1000 then ∑ k ∈ range 2000, f (2000 * c + k) else 0) 32 32,
    sum_cut (fun c => ∑ k ∈ range 2000, f (2000 * c + k)) (32 * 32) 1000 (by norm_num), sum_blocks]

end Range

/-! ## The chunks -/

/-- A trip's chunk exists when its number is below 1000. -/
theorem cond1_iff : ∀ (i : grid0.Coords) (t : Fin k0_t1_loop.trips), k0_cond1 i t = 1#1 ↔ 2 * (i 1).val + (i 0).val + 32 * t.val < 1000 := by
  decide +kernel

section Chunks

variable {R : ℕ → ℝ} {N : ℕ → BitVec 32} {L : Vec Ideal S6000000 .f32} {B : Vec Ideal S2000000 .i32} {bt : Vec Ideal S16 .f32}
  (hL : ∀ x : S6000000.Idx, L x = ((R (x 0).val : ℝ) : EReal)) (hB : ∀ x : S2000000.Idx, B x = N (x 0).val)
  (hbt : ∀ x : S16.Idx, bt x = ((((x 0).val : ℝ) / 15 : ℝ) : EReal)) (i : grid0.Coords)

include hL in
/-- The logits of a trip's chunk. -/
theorem chL_apply (t : Fin k0_t1_loop.trips) (h : k0_cond1 i t = 1#1) (x : S6000.Idx) :
    chL i L t h x = ((R (3 * (2000 * (2 * (i 1).val + (i 0).val + 32 * t.val)) + (x 0).val) : ℝ) : EReal) := by
  unfold chL
  rw [hL, Rect.emb_apply]
  congr 2
  show k0_off1 i t 0 + 1 * (x 0).val = _
  rw [k0_off1_eq]
  show 12000 * (i 1).val + 6000 * (i 0).val + 192000 * t.val + 1 * (x 0).val = _
  omega

include hB in
/-- The labels of a trip's chunk. -/
theorem chB_apply (t : Fin k0_t1_loop.trips) (h : k0_cond1 i t = 1#1) (x : S2000.Idx) :
    chB i B t h x = N (2000 * (2 * (i 1).val + (i 0).val + 32 * t.val) + (x 0).val) := by
  unfold chB
  rw [hB, Rect.emb_apply]
  congr 1
  show k0_off2 i t 0 + 1 * (x 0).val = _
  rw [k0_off2_eq]
  show 4000 * (i 1).val + 2000 * (i 0).val + 64000 * t.val + 1 * (x 0).val = _
  omega

include hL hbt in
/-- For real logits every index of every group of a subcore is in range. -/
theorem tileOk_of_real : TileOk i L bt := fun t h g => ok_of_real (chL_apply hL i t h) hbt g

include hL hB hbt

/-- The first `n` groups of a chunk. -/
theorem groups_apply (t : Fin k0_t1_loop.trips) (h : k0_cond1 i t = 1#1) (acc : Vec Ideal S720 .f32) (p : S720.Idx) (s b l : ℕ)
    (hs : s < 3) (hb : b < 15) (hl : l < 16) (hp : (p 0).val = 240 * s + 16 * b + l) (n : ℕ) (hn : n ≤ 125) :
    groups (chL i L t h) (chB i B t h) bt acc n p
      = acc p + ∑ g ∈ range n, ctr R N s b (2000 * (2 * (i 1).val + (i 0).val + 32 * t.val) + 16 * g + l) := by
  induction n with
  | zero => rw [range_zero, sum_empty]; exact (add_zero _).symm
  | succ n ih =>
    have hn' : n < k0_t2_loop.trips := by show n < 125; omega
    have e := groups_succ (chL i L t h) (chB i B t h) bt acc ⟨n, hn'⟩
    rw [show n + 1 = (⟨n, hn'⟩ : Fin k0_t2_loop.trips).val + 1 from rfl, e,
      step_apply (chL_apply hL i t h) (chB_apply hB i t h) hbt ⟨n, hn'⟩ _ p s b l hs hb hl hp, ih (by omega), sum_range_succ]
    exact add_assoc _ _ _

/-- The first `n` trips of a subcore. -/
theorem trips_apply (p : S720.Idx) (s b l : ℕ) (hs : s < 3) (hb : b < 15) (hl : l < 16) (hp : (p 0).val = 240 * s + 16 * b + l) (n : ℕ)
    (hn : n ≤ 32) :
    trips i L B bt n p = ∑ t ∈ range n, if 2 * (i 1).val + (i 0).val + 32 * t < 1000 then
      ∑ g ∈ range 125, ctr R N s b (2000 * (2 * (i 1).val + (i 0).val + 32 * t) + 16 * g + l) else 0 := by
  induction n with
  | zero =>
    rw [range_zero, sum_empty]
    exact Ideal.ofBits_zero_f32
  | succ n ih =>
    have hn' : n < k0_t1_loop.trips := by show n < 32; omega
    rw [sum_range_succ, ← ih (by omega)]
    by_cases hc : k0_cond1 i ⟨n, hn'⟩ = 1#1
    · have e := trips_succ_of i L B bt ⟨n, hn'⟩ hc
      rw [show n + 1 = (⟨n, hn'⟩ : Fin k0_t1_loop.trips).val + 1 from rfl, e, if_pos ((cond1_iff i ⟨n, hn'⟩).mp hc)]
      exact groups_apply hL hB hbt i ⟨n, hn'⟩ hc _ p s b l hs hb hl hp 125 le_rfl
    · have e := trips_succ_not i L B bt ⟨n, hn'⟩ hc
      rw [show n + 1 = (⟨n, hn'⟩ : Fin k0_t1_loop.trips).val + 1 from rfl, e, if_neg fun h => hc ((cond1_iff i ⟨n, hn'⟩).mpr h)]
      exact (add_zero _).symm

omit i

/-- Element `(w, k)` of the parts. -/
def at32x720 (w k : ℕ) (hw : w < 32) (hk : k < 720) : S32x720.Idx := fun | 0 => ⟨w, hw⟩ | 1 => ⟨k, hk⟩

/-- What subcore `w` leaves in the slot of sum `s`, bin `b` and lane `l`. -/
theorem parts_apply (w s b l : ℕ) (hw : w < 32) (hs : s < 3) (hb : b < 15) (hl : l < 16) :
    parts L B bt (at32x720 w (240 * s + 16 * b + l) hw (by omega)) = ∑ t ∈ range 32, if w + 32 * t < 1000 then
      ∑ g ∈ range 125, ctr R N s b (2000 * (w + 32 * t) + 16 * g + l) else 0 := by
  let p : S720.Idx := fun a => ⟨240 * s + 16 * b + l, by obtain rfl : a = 0 := Subsingleton.elim _ _; show _ < 720; omega⟩
  let j : grid0.Coords := rowAt ⟨w, hw⟩
  have hj : 2 * (j 1).val + (j 0).val = w := by
    show 2 * (w / 2) + w % 2 = w; omega
  rw [parts_of j L B bt (at32x720 w (240 * s + 16 * b + l) hw (by omega)) p hj.symm rfl, tileAcc_eq]
  have := trips_apply hL hB hbt j p s b l hs hb hl rfl 32 le_rfl
  rw [hj] at this
  exact this

/-- Element `(s, b)` of the kernel's sums. -/
def at3x15 (s b : ℕ) (hs : s < 3) (hb : b < 15) : S3x15.Idx := fun | 0 => ⟨s, hs⟩ | 1 => ⟨b, hb⟩

/-- Element `(w, s, b, l)` of the parts, seen as subcores by sums by bins by lanes. -/
def at4d (s b : ℕ) (hs : s < 3) (hb : b < 15) (k : Fin 32 × Fin 16) : S32x3x15x16.Idx :=
  fun | 0 => k.1 | 1 => ⟨s, hs⟩ | 2 => ⟨b, hb⟩ | 3 => k.2

omit hL hB hbt in
/-- Different subcores or lanes are different elements. -/
theorem at4d_inj (s b : ℕ) (hs : s < 3) (hb : b < 15) : Function.Injective (at4d s b hs hb) := fun k k' h =>
  Prod.ext (congrFun h 0) (congrFun h 3)

omit hL hB hbt in
/-- The elements that the sum of `s` and `b` runs over are those of the subcores and lanes. -/
theorem fiber (s b : ℕ) (hs : s < 3) (hb : b < 15) (x : S32x3x15x16.Idx) :
    reducesTo_S32x3x15x16_S3x15_d0_3.drop x = at3x15 s b hs hb ↔ ∃ k, at4d s b hs hb k = x := by
  have d0 : (reducesTo_S32x3x15x16_S3x15_d0_3.drop x 0).val = (x 1).val := rfl
  have d1 : (reducesTo_S32x3x15x16_S3x15_d0_3.drop x 1).val = (x 2).val := rfl
  constructor
  · intro h
    rw [h] at d0 d1
    refine ⟨(x 0, x 3), ?_⟩
    funext a
    match a with
    | 0 => rfl
    | 1 => exact Fin.ext d0
    | 2 => exact Fin.ext d1
    | 3 => rfl
  · rintro ⟨k, rfl⟩
    funext a
    match a with
    | 0 => exact Fin.ext d0
    | 1 => exact Fin.ext d1

/-- The kernel's sums are the sums of the rows' contributions. -/
theorem sums_parts (s b : ℕ) (hs : s < 3) (hb : b < 15) :
    Tile.sums (parts L B bt) (at3x15 s b hs hb) = ∑ r ∈ range 2000000, ctr R N s b r := by
  have e : Tile.sums (parts L B bt) (at3x15 s b hs hb) = Ideal.ofBits .f32 0x00000000#32
      + ∑ x ∈ univ.filter (fun x => reducesTo_S32x3x15x16_S3x15_d0_3.drop x = at3x15 s b hs hb),
        (shapeCast S32x3x15x16 (parts L B bt) shapeCasts_S32x720_S32x3x15x16 x : EReal) := rfl
  rw [e, Ideal.ofBits_zero_f32, zero_add, sum_filter_eq_sum_of_fiber _ (at4d s b hs hb) (at4d_inj s b hs hb) (fiber s b hs hb),
    Fintype.sum_prod_type, ← sum_rows, ← Fin.sum_univ_eq_sum_range (fun w => ∑ l ∈ range 16, ∑ t ∈ range 32,
      if w + 32 * t < 1000 then ∑ g ∈ range 125, ctr R N s b (2000 * (w + 32 * t) + 16 * g + l) else 0) 32]
  refine sum_congr rfl fun w _ => ?_
  rw [← Fin.sum_univ_eq_sum_range (fun l => ∑ t ∈ range 32,
      if w.val + 32 * t < 1000 then ∑ g ∈ range 125, ctr R N s b (2000 * (w.val + 32 * t) + 16 * g + l) else 0) 16]
  refine sum_congr rfl fun l _ => ?_
  rw [shapeCast_apply _ shapeCasts_S32x720_S32x3x15x16 _ (at32x720 w.val (240 * s + 16 * b + l.val) w.isLt (by omega))]
  · exact parts_apply hL hB hbt w.val s b l.val w.isLt hs hb l.isLt
  · rw [Shape.rowMajor_val_two, Shape.rowMajor_val_four]
    show w.val * 720 + (240 * s + 16 * b + l.val) = ((w.val * 3 + s) * 15 + b) * 16 + l.val
    omega

end Chunks

end Cert.Proof.Row

end
-- ==== Proof.RefValue.lean ====
/-
  The reference over the extended reals, for real logits: the bins' edges (`edges_apply`), each row's confidence and guess
  (`conf_apply`, `pred_apply`), and the three sums of each bin, which are the sums over all the rows of what each contributes
  (`count_apply`, `sumConf_apply`, `sumHit_apply`).
-/
module

public import proofs.«01_k».proof.Proof.GroupValue
public import proofs.«01_k».proof.Proof.RefRun
public import Idealize.ShloMosaic.Lib.Pipeline.Value
public import Idealize.ShloMosaic.Lib.Pointwise.Reduce

@[expose] public section

noncomputable section

namespace Cert.Proof.RefVal

open Cert.ReferenceIdeal Cert.ReferenceIdeal.Gen Cert.Proof.Row Idealize.ShloMosaic Finset

/-! ## Whole-array operations, read at an element -/

section Reads

variable {s t u : Shape} (i : s.Idx)

/-- False and anything is false. -/
theorem zero_andi : ∀ w : BitVec 1, IntOp.andi (BitVec.ofBool false) w = BitVec.ofBool false := by decide
theorem andi_at (a b : IVec s 1) : andi a b i = IntOp.andi (a i) (b i) := rfl
theorem cmpf_at (p : CmpFPredicate) (a b : Vec Ideal s .f32) : cmpf (F := Ideal) (φ := .f32) p a b i = Ideal.cmp p (a i) (b i) := rfl
theorem cmpi_at (a b : IVec s 32) : cmpi .eq a b i = IntOp.cmpi .eq (a i) (b i) := rfl
theorem select_at (c : IVec s 1) (a b : Vec Ideal s .f32) : select c a b i = Scalar.select (c i) (a i) (b i) := rfl
theorem uitofp_at (a : IVec s 1) : (uitofp (F := Ideal) .f32 a : Vec Ideal s .f32) i = (((a i).toNat : ℝ) : EReal) := rfl
theorem exp_at (a : Vec Ideal s .f32) : (Host.exp (F := Ideal) (φ := .f32) a : Vec Ideal s .f32) i = Ideal.exp (a i) := rfl
theorem div_at (a b : Vec Ideal s .f32) : (Host.divf (F := Ideal) (φ := .f32) a b : Vec Ideal s .f32) i = Ideal.div (a i) (b i) := rfl
theorem sub_at (a b : Vec Ideal s .f32) : (subf (F := Ideal) (φ := .f32) a b : Vec Ideal s .f32) i = (a i - b i : EReal) := rfl
theorem max_at (a b : Vec Ideal s .f32) : (maximumf (F := Ideal) (φ := .f32) a b : Vec Ideal s .f32) i = (max (a i) (b i) : EReal) := rfl
theorem const_at (w : BitVec 32) : (constant (F := Ideal) s .f32 w : Vec Ideal s .f32) i = Ideal.ofBits .f32 w := rfl
theorem maximumf_eq (a b : EReal) : FloatOps.maximumf (F := Ideal) (φ := .f32) a b = max a b := rfl
theorem spreadScalar_at (h : (⟨0, ![]⟩ : Shape).BroadcastsInDim s ![]) (x : (⟨0, ![]⟩ : Shape).Idx → EReal) (y : EReal) (hx : ∀ k, x k = y) :
    broadcastInDim s ![] h x i = y := hx _

theorem reduce2_at {α β : Type} {axes : List (Fin s.rank)} (f : α × β → α × β → α × β) (x : s.Idx → α) (y : s.Idx → β) (a : u.Idx → α)
    (b : u.Idx → β) (h : s.ReducesTo axes t) (hu : 0 < u.numel) (j : t.Idx) :
    Host.reduce2 f x y a b h hu j = Host.reduce f (fun i => (x i, y i)) (fun k => (a k, b k)) h hu j := rfl

theorem reduceAdd_at {axes : List (Fin s.rank)} (x : Vec Ideal s .f32) (w : BitVec 32) (h : s.ReducesTo axes t) (hu : 0 < u.numel) (j : t.Idx) :
    (Host.reduceAdd (F := Ideal) (φ := .f32) x (constant (F := Ideal) u .f32 w) h hu : Vec Ideal t .f32) j = Ideal.hostReduceAdd h x (Ideal.ofBits .f32 w) j := rfl

end Reads

/-! ## The edges -/

/-- The one element of a vector of one. -/
def at1 : S1.Idx := fun a => ⟨0, by obtain rfl : a = 0 := Subsingleton.elim _ _; exact Nat.one_pos⟩
/-- Element `b` of a vector of 15. -/
def at15 (b : ℕ) (hb : b < 15) : S15.Idx := fun a => ⟨b, by obtain rfl : a = 0 := Subsingleton.elim _ _; exact hb⟩

/-- `i / 15`, as the reference computes it. -/
theorem frac_apply (y : S15.Idx) : (Ref.frac : Vec Ideal S15 .f32) y = ((((y 0).val : ℝ) / 15 : ℝ) : EReal) := by
  have hy : (y 0).val < 15 := (y 0).isLt
  have e : (Ref.frac : Vec Ideal S15 .f32) y
    = Ideal.div ((((BitVec.ofNat 32 (y 0).val).toInt : ℝ) : EReal)) (Ideal.ofBits .f32 0x41700000#32) := rfl
  have ei : (BitVec.ofNat 32 (y 0).val).toInt = ((y 0).val : ℤ) := by
    rw [BitVec.toInt_eq_toNat_of_lt (by rw [BitVec.toNat_ofNat]; omega), BitVec.toNat_ofNat]; omega
  rw [e, ei, ofBits_fifteen, Int.cast_natCast]
  exact div_coe_coe (by norm_num)

/-- The `i`-th edge is `i / 15`. -/
theorem edges_apply (x : S16.Idx) : (Ref.edges : Vec Ideal S16 .f32) x = ((((x 0).val : ℝ) / 15 : ℝ) : EReal) := by
  have hx : (x 0).val < 16 := (x 0).isLt
  by_cases h : (x 0).val < 15
  · have e : (Ref.edges : Vec Ideal S16 .f32) x = Ideal.ofBits .f32 0x00000000#32
        * (Ideal.ofBits .f32 0x3F800000#32 - (Ref.frac : Vec Ideal S15 .f32) (at15 (x 0).val h))
        + Ideal.ofBits .f32 0x3F800000#32 * (Ref.frac : Vec Ideal S15 .f32) (at15 (x 0).val h) := by
      unfold Ref.edges Ref.join
      refine (concatenate_pair_apply_left 0 _ _ concatenates_S15_S1_S16_d0 x rfl (at15 (x 0).val h) fun b => ?_).trans rfl
      obtain rfl : b = 0 := Subsingleton.elim _ _
      rfl
    rw [e, Ideal.ofBits_zero_f32, Ideal.ofBits_one_f32, zero_mul, one_mul, zero_add, frac_apply]
    rfl
  · have h15 : (x 0).val = 15 := by omega
    have e : (Ref.edges : Vec Ideal S16 .f32) x = Ideal.ofBits .f32 0x3F800000#32 := by
      unfold Ref.edges Ref.join
      refine (concatenate_pair_apply_right 0 _ _ concatenates_S15_S1_S16_d0 x rfl rfl at1 (fun b hb => ?_) ?_).trans rfl
      · exact absurd (Subsingleton.elim _ _) hb
      · show 0 + 15 = (x 0).val
        omega
    rw [e, Ideal.ofBits_one_f32, h15]
    norm_num

/-! ## Rows -/

/-- The element of row `r` of a vector. -/
def row {n : ℕ} (r : Fin n) : (⟨1, ![n]⟩ : Shape).Idx := fun a => ⟨r.val, by obtain rfl : a = 0 := Subsingleton.elim _ _; exact r.isLt⟩

/-- A row's number in each of its three places. -/
theorem spread_apply (y : Vec Ideal S2000000 .f32) (r : Fin 2000000) (k : Fin 3) : Ref.spread y (ix2 r k) = y (row r) := by
  unfold Ref.spread
  refine (broadcastInDim_apply _ _ _ _ (ix2 r (0 : Fin 1)) ?_).trans (broadcastInDim_apply _ _ _ _ (row r) ?_)
  · intro a
    match a with
    | 0 => rfl
    | 1 => rfl
  · intro a
    obtain rfl : a = 0 := Subsingleton.elim _ _
    rfl

/-- A commutative and associative fold over three. -/
theorem fold_three {α : Type} (op : α → α → α) [Std.Commutative op] [Std.Associative op] (b : α) (f : Fin 3 → α) :
    (univ : Finset (Fin 3)).fold op b f = op (f 0) (op (f 1) (op (f 2) b)) := rfl

/-- The maximum of a row of three. -/
theorem maxRow_at {n : ℕ} (y : Vec Ideal ⟨2, ![n, 3]⟩ .f32) (h : (⟨2, ![n, 3]⟩ : Shape).ReducesTo [1] ⟨1, ![n]⟩) (r : Fin n) :
    (Host.reduce (FloatOps.maximumf (F := Ideal) (φ := .f32)) y (constant (F := Ideal) S_ .f32 0xFF800000#32) h h_S_ : Vec Ideal ⟨1, ![n]⟩ .f32) (row r)
      = max (y (ix2 r 0)) (max (y (ix2 r 1)) (max (y (ix2 r 2)) (⊥ : EReal))) := by
  rw [Host.reduce_eq_fold, Shape.ReducesTo.fold_fiber_r2_a1, fold_three, maximumf_eq, maximumf_eq, maximumf_eq, const_at, ofBits_neg_inf]
  rfl

/-- A row's maximum. -/
theorem rowMax_apply (y : Vec Ideal S2000000x3 .f32) (r : Fin 2000000) :
    Ref.rowMax y (row r) = max (y (ix2 r 0)) (max (y (ix2 r 1)) (max (y (ix2 r 2)) (⊥ : EReal))) := by
  unfold Ref.rowMax
  exact maxRow_at y _ r

/-- The sum of a row of three. -/
theorem sumRow_at {n : ℕ} (y : Vec Ideal ⟨2, ![n, 3]⟩ .f32) (h : (⟨2, ![n, 3]⟩ : Shape).ReducesTo [1] ⟨1, ![n]⟩) (r : Fin n) :
    (Host.reduceAdd (F := Ideal) (φ := .f32) y (constant (F := Ideal) S_ .f32 0x00000000#32) h h_S_ : Vec Ideal ⟨1, ![n]⟩ .f32) (row r)
      = ((y (ix2 r 0) + y (ix2 r 1) + y (ix2 r 2) : EReal)) := by
  rw [reduceAdd_at, Ideal.hostReduceAdd_r2_a1, Ideal.ofBits_zero_f32, zero_add, Fin.sum_univ_three]
  rfl

/-- A row's sum. -/
theorem sum_three (y : Vec Ideal S2000000x3 .f32) (r : Fin 2000000) :
    (Host.reduceAdd (F := Ideal) (φ := .f32) y (constant (F := Ideal) S_ .f32 0x00000000#32) reducesTo_S2000000x3_S2000000_d1 h_S_ : Vec Ideal S2000000 .f32) (row r)
      = ((y (ix2 r 0) + y (ix2 r 1) + y (ix2 r 2) : EReal)) := sumRow_at y _ r

section Rows

variable {R : ℕ → ℝ} {N : ℕ → BitVec 32} {x : Vec Ideal S2000000x3 .f32} {b : IVec S2000000 32}
  (hx : ∀ (r : Fin 2000000) (k : Fin 3), x (ix2 r k) = ((R (3 * r.val + k.val) : ℝ) : EReal)) (hb : ∀ r, b (row r) = N r.val)

/-- The largest logit of row `r`. -/
def topAt (R : ℕ → ℝ) (r : ℕ) : ℝ := top (R (3 * r)) (R (3 * r + 1)) (R (3 * r + 2))
/-- The sum of a row's exponentials. -/
def massAt (R : ℕ → ℝ) (r : ℕ) : ℝ := mass (R (3 * r)) (R (3 * r + 1)) (R (3 * r + 2))

/-- Entry `k` of row `r` of the softmax. -/
def prob (R : ℕ → ℝ) (r k : ℕ) : ℝ := Real.exp (R (3 * r + k) - topAt R r) / massAt R r

/-- The softmax is in the order of the logits. -/
theorem prob_lt (r k k' : ℕ) : prob R r k < prob R r k' ↔ R (3 * r + k) < R (3 * r + k') := by
  unfold prob
  rw [div_lt_div_iff_of_pos_right (show 0 < massAt R r from mass_pos _ _ _), Real.exp_lt_exp]
  constructor <;> intro h <;> linarith

/-- The same with `≤`. -/
theorem prob_le (r k k' : ℕ) : prob R r k ≤ prob R r k' ↔ R (3 * r + k) ≤ R (3 * r + k') := by
  rw [← not_lt, ← not_lt, prob_lt]

/-- The largest of a row's softmax is its confidence. -/
theorem prob_max (r : ℕ) : max (prob R r 0) (max (prob R r 1) (prob R r 2)) = cfAt R r := by
  have hm := mass_pos (R (3 * r)) (R (3 * r + 1)) (R (3 * r + 2))
  have hle : ∀ k, k < 3 → prob R r k ≤ cfAt R r := by
    intro k hk
    unfold prob cfAt cf massAt
    refine div_le_div_of_nonneg_right ?_ hm.le
    refine exp_le_one' ?_
    unfold topAt
    obtain rfl | rfl | rfl : k = 0 ∨ k = 1 ∨ k = 2 := by omega
    · exact le_top0 _ _ _
    · exact le_top1 _ _ _
    · exact le_top2 _ _ _
  have heq : ∀ k, topAt R r = R (3 * r + k) → prob R r k = cfAt R r := by
    intro k hk
    unfold prob cfAt cf massAt
    rw [hk, sub_self, Real.exp_zero]
  refine le_antisymm (max_le (hle 0 (by norm_num)) (max_le (hle 1 (by norm_num)) (hle 2 (by norm_num)))) ?_
  rcases top_mem (R (3 * r)) (R (3 * r + 1)) (R (3 * r + 2)) with h | h | h
  · rw [← heq 0 h]; exact le_max_left _ _
  · rw [← heq 1 h]; exact (le_max_left _ _).trans (le_max_right _ _)
  · rw [← heq 2 h]; exact (le_max_right _ _).trans (le_max_right _ _)

include hx

/-- A row's largest logit. -/
theorem rowTop_apply (r : Fin 2000000) : Ref.rowMax x (row r) = ((topAt R r.val : ℝ) : EReal) := by
  rw [rowMax_apply, hx, hx, hx, max_eq_left (bot_le : (⊥ : EReal) ≤ _), max_coe, max_coe]
  unfold topAt top
  rw [max_assoc]
  rfl

/-- A row's exponentials. -/
theorem expo_apply (r : Fin 2000000) (k : Fin 3) : Ref.expo x (ix2 r k) = ((Real.exp (R (3 * r.val + k.val) - topAt R r.val) : ℝ) : EReal) := by
  unfold Ref.expo
  rw [exp_at, sub_at, spread_apply, max_at, spreadScalar_at _ _ _ ⊥ fun k => (const_at k _).trans ofBits_neg_inf,
    max_eq_right (bot_le : (⊥ : EReal) ≤ _), rowTop_apply hx, hx, ← EReal.coe_sub, exp_coe]

/-- A row's softmax. -/
theorem smx_apply (r : Fin 2000000) (k : Fin 3) : Ref.smx x (ix2 r k) = ((prob R r.val k.val : ℝ) : EReal) := by
  unfold Ref.smx
  rw [div_at, spread_apply, sum_three, expo_apply hx, expo_apply hx, expo_apply hx, expo_apply hx, ← EReal.coe_add, ← EReal.coe_add]
  exact div_coe_coe (mass_pos (R (3 * r.val)) (R (3 * r.val + 1)) (R (3 * r.val + 2))).ne'

/-- A row's confidence. -/
theorem conf_apply (r : Fin 2000000) : Ref.conf x (row r) = ((cfAt R r.val : ℝ) : EReal) := by
  unfold Ref.conf
  rw [rowMax_apply, smx_apply hx, smx_apply hx, smx_apply hx, max_eq_left (bot_le : (⊥ : EReal) ≤ _), max_coe, max_coe]
  exact congrArg _ (prob_max r.val)

end Rows

/-! ## The guess -/

/-- The pair with the larger value, of equal values the one with the smaller position. -/
def pick (a b : EReal × BitVec 32) : EReal × BitVec 32 := if b.1 < a.1 ∨ (b.1 = a.1 ∧ a.2.toInt < b.2.toInt) then a else b

/-- The argmax's step is `pick`. -/
theorem reducer_eq : reducer_argmax_f32_i32 (F := Ideal) = pick := by
  funext a b
  have e : (reducer_argmax_f32_i32 (F := Ideal) a b : EReal × BitVec 32)
    = (Scalar.select (IntOp.ori (Ideal.cmp .ogt a.1 b.1) (Ideal.cmp .une a.1 a.1)) a.1 b.1,
       Scalar.select (IntOp.ori (IntOp.ori (Ideal.cmp .ogt a.1 b.1) (Ideal.cmp .une a.1 a.1))
        (IntOp.andi (Ideal.cmp .oeq a.1 b.1) (IntOp.cmpi .slt a.2 b.2))) a.2 b.2) := rfl
  refine e.trans ?_
  have hs : IntOp.cmpi .slt a.2 b.2 = BitVec.ofBool (decide (a.2.toInt < b.2.toInt)) := rfl
  have h1 : Ideal.cmp .ogt a.1 b.1 = BitVec.ofBool (decide (b.1 < a.1)) := rfl
  have h2 : Ideal.cmp .une a.1 a.1 = 0#1 := by simp [Ideal.cmp]
  have h3 : Ideal.cmp .oeq a.1 b.1 = BitVec.ofBool (decide (a.1 = b.1)) := rfl
  rw [hs, h1, h2, h3]
  unfold pick
  by_cases k1 : b.1 < a.1
  · simp [k1, Scalar.select, IntOp.ori, IntOp.andi, k1.ne']
  · by_cases k2 : a.1 = b.1
    · by_cases k3 : a.2.toInt < b.2.toInt
      · simp only [k2, k3, lt_irrefl, Scalar.select, IntOp.ori, IntOp.andi]
        simp [← k2]
      · simp [k2, k3, Scalar.select, IntOp.ori, IntOp.andi]
    · simp [k1, k2, Ne.symm k2, Scalar.select, IntOp.ori, IntOp.andi]

/-- The order in which `pick` takes the larger. -/
def key (a : EReal × BitVec 32) : EReal ×ₗ ℤ := toLex (a.1, -a.2.toInt)

/-- Pairs with the same key are the same. -/
theorem key_inj : Function.Injective key := by
  intro a b h
  have h' : (a.1, -a.2.toInt) = (b.1, -b.2.toInt) := toLex.injective h
  rw [Prod.mk.injEq, neg_inj] at h'
  exact Prod.ext h'.1 (BitVec.eq_of_toInt_eq h'.2)

/-- `pick` takes the larger key. -/
theorem key_pick (a b : EReal × BitVec 32) : key (pick a b) = max (key a) (key b) := by
  have hk : key b < key a ↔ (b.1 < a.1 ∨ (b.1 = a.1 ∧ a.2.toInt < b.2.toInt)) := by
    unfold key
    rw [Prod.Lex.toLex_lt_toLex]
    simp only [neg_lt_neg_iff]
  unfold pick
  by_cases h : b.1 < a.1 ∨ (b.1 = a.1 ∧ a.2.toInt < b.2.toInt)
  · rw [if_pos h, max_eq_left (hk.mpr h).le]
  · rw [if_neg h, max_eq_right (not_lt.mp fun h' => h (hk.mp h'))]

instance : Std.Commutative pick := ⟨fun a b => key_inj (by rw [key_pick, key_pick, max_comm])⟩
instance : Std.Associative pick := ⟨fun a b c => key_inj (by rw [key_pick, key_pick, key_pick, key_pick, max_assoc])⟩

/-- The largest of a row of three, and its position. -/
theorem argRow_at {n : ℕ} (y : Vec Ideal ⟨2, ![n, 3]⟩ .f32) (h : (⟨2, ![n, 3]⟩ : Shape).ReducesTo [1] ⟨1, ![n]⟩) (r : Fin n) :
    Host.argReduce (reducer_argmax_f32_i32 (F := Ideal)) y (iotaInDim ⟨2, ![n, 3]⟩ 32 1) (constant (F := Ideal) S_ .f32 0xFF800000#32)
      (constantI S_ 32 0#32) h h_S_ (row r)
      = pick (y (ix2 r 0), 0#32) (pick (y (ix2 r 1), 1#32) (pick (y (ix2 r 2), 2#32) ((⊥ : EReal), 0#32))) := by
  rw [Ideal.argReduce_eq_reduce2, reduce2_at, reducer_eq, Host.reduce_eq_fold, Shape.ReducesTo.fold_fiber_r2_a1, fold_three, const_at, ofBits_neg_inf]
  rfl

/-- The position picked among three real values. -/
theorem pick_three (p0 p1 p2 : ℝ) (a b c : ℝ) (h01 : p0 < p1 ↔ a < b) (h02 : p0 < p2 ↔ a < c) (h12 : p1 < p2 ↔ b < c) :
    (pick ((p0 : EReal), 0#32) (pick ((p1 : EReal), 1#32) (pick ((p2 : EReal), 2#32) ((⊥ : EReal), 0#32)))).2 = guess a b c := by
  have e2 : pick ((p2 : EReal), 2#32) ((⊥ : EReal), 0#32) = ((p2 : EReal), 2#32) := by
    unfold pick; rw [if_pos (Or.inl (EReal.bot_lt_coe p2))]
  have e12 : pick ((p1 : EReal), 1#32) ((p2 : EReal), 2#32) = if b < c then ((p2 : EReal), 2#32) else ((p1 : EReal), 1#32) := by
    unfold pick
    by_cases h : b < c
    · rw [if_pos h, if_neg]
      have := h12.mpr h
      simp only [EReal.coe_lt_coe_iff, EReal.coe_eq_coe_iff, not_or, not_and]
      exact ⟨by linarith, fun h' => absurd h' (by linarith)⟩
    · rw [if_neg h, if_pos]
      have : p2 ≤ p1 := not_lt.mp fun h' => h (h12.mp h')
      simp only [EReal.coe_lt_coe_iff, EReal.coe_eq_coe_iff]
      rcases this.lt_or_eq with h' | h'
      · exact Or.inl h'
      · exact Or.inr ⟨h', by decide⟩
  rw [e2, e12]
  unfold guess
  by_cases hbc : b < c
  · rw [if_pos hbc]
    unfold pick
    by_cases hac : a < c
    · have := h02.mpr hac
      rw [if_neg, if_pos (max_lt hac hbc)]
      simp only [EReal.coe_lt_coe_iff, EReal.coe_eq_coe_iff, not_or, not_and]
      exact ⟨by linarith, fun h' => absurd h' (by linarith)⟩
    · have : p2 ≤ p0 := not_lt.mp fun h' => hac (h02.mp h')
      rw [if_pos, if_neg fun h => hac ((le_max_left _ _).trans_lt h), if_neg (by linarith)]
      simp only [EReal.coe_lt_coe_iff, EReal.coe_eq_coe_iff]
      rcases this.lt_or_eq with h' | h'
      · exact Or.inl h'
      · exact Or.inr ⟨h', by decide⟩
  · rw [if_neg hbc, if_neg fun h => hbc ((le_max_right _ _).trans_lt h)]
    unfold pick
    by_cases hab : a < b
    · have := h01.mpr hab
      rw [if_neg, if_pos hab]
      simp only [EReal.coe_lt_coe_iff, EReal.coe_eq_coe_iff, not_or, not_and]
      exact ⟨by linarith, fun h' => absurd h' (by linarith)⟩
    · have : p1 ≤ p0 := not_lt.mp fun h' => hab (h01.mp h')
      rw [if_pos, if_neg hab]
      simp only [EReal.coe_lt_coe_iff, EReal.coe_eq_coe_iff]
      rcases this.lt_or_eq with h' | h'
      · exact Or.inl h'
      · exact Or.inr ⟨h', by decide⟩

/-- The positions, from the pairs of values and positions. -/
theorem argIdx_of {F : FTy → Type} [FloatOps F] (y : Vec F S2000000x3 .f32) (i u v) (a : S2000000.Idx → F .f32 × BitVec 32)
   (h : (Host.argReduce (reducer_argmax_f32_i32 (F := F)) y i u v reducesTo_S2000000x3_S2000000_d1 h_S_) = a) :
    Ref.argIdx y i u v = fun j => (a j).2 := by
  unfold Ref.argIdx
  rw [h]

/-- The position of a row's largest entry. -/
theorem argIdx_apply (y : Vec Ideal S2000000x3 .f32) (r : Fin 2000000) :
    Ref.argIdx y (iotaInDim S2000000x3 32 1) (constant (F := Ideal) S_ .f32 0xFF800000#32) (constantI S_ 32 0#32) (row r)
      = (pick (y (ix2 r 0), 0#32) (pick (y (ix2 r 1), 1#32) (pick (y (ix2 r 2), 2#32) ((⊥ : EReal), 0#32)))).2 := by
  have h : (Host.argReduce (reducer_argmax_f32_i32 (F := Ideal)) y (iotaInDim S2000000x3 32 1) (constant (F := Ideal) S_ .f32 0xFF800000#32)
      (constantI S_ 32 0#32) reducesTo_S2000000x3_S2000000_d1 h_S_) (row r) = _ := argRow_at y reducesTo_S2000000x3_S2000000_d1 r
  obtain ⟨a, ha⟩ : ∃ a, Host.argReduce (reducer_argmax_f32_i32 (F := Ideal)) y (iotaInDim S2000000x3 32 1)
      (constant (F := Ideal) S_ .f32 0xFF800000#32) (constantI S_ 32 0#32) reducesTo_S2000000x3_S2000000_d1 h_S_ = a := ⟨_, rfl⟩
  rw [ha] at h
  rw [argIdx_of _ _ _ _ a ha, ← h]

section Rows

variable {R : ℕ → ℝ} {N : ℕ → BitVec 32} {x : Vec Ideal S2000000x3 .f32} {b : IVec S2000000 32}
  (hx : ∀ (r : Fin 2000000) (k : Fin 3), x (ix2 r k) = ((R (3 * r.val + k.val) : ℝ) : EReal)) (hb : ∀ r, b (row r) = N r.val)

include hx

/-- A row's prediction is the position of its largest logit. -/
theorem pred_apply (r : Fin 2000000) : Ref.pred x (row r) = guessAt R r.val := by
  have s0 : Ref.smx x (ix2 r 0) = ((prob R r.val 0 : ℝ) : EReal) := smx_apply hx r 0
  have s1 : Ref.smx x (ix2 r 1) = ((prob R r.val 1 : ℝ) : EReal) := smx_apply hx r 1
  have s2 : Ref.smx x (ix2 r 2) = ((prob R r.val 2 : ℝ) : EReal) := smx_apply hx r 2
  unfold Ref.pred
  rw [argIdx_apply, s0, s1, s2]
  exact pick_three (prob R r.val 0) (prob R r.val 1) (prob R r.val 2) (R (3 * r.val)) (R (3 * r.val + 1)) (R (3 * r.val + 2))
    (prob_lt _ _ _) (prob_lt _ _ _) (prob_lt _ _ _)

/-! ## The bins' sums -/

/-- A row is in bin `n` when its confidence is. -/
theorem inBin_apply (n : ℕ) (hn : n < 15) (r : Fin 2000000) :
    Ref.inBin (Ref.conf x) (ix2 (⟨n, hn⟩ : Fin 15) r) = BitVec.ofBool (decide (bin (cfAt R r.val) = n)) := by
  have hp : ∀ c : Vec Ideal S2000000 .f32, Ref.perRow c (ix2 (⟨n, hn⟩ : Fin 15) r) = c (row r) := by
    intro c
    unfold Ref.perRow
    refine (broadcastInDim_apply _ _ _ _ (ix2 (0 : Fin 1) r) ?_).trans (broadcastInDim_apply _ _ _ _ (row r) ?_)
    · intro a
      match a with
      | 0 => rfl
      | 1 => rfl
    · intro a
      obtain rfl : a = 0 := Subsingleton.elim _ _
      rfl
  have hq : ∀ e : Vec Ideal S15 .f32, Ref.perBin e (ix2 (⟨n, hn⟩ : Fin 15) r) = e (at15 n hn) := by
    intro e
    unfold Ref.perBin
    refine (broadcastInDim_apply _ _ _ _ (ix2 (⟨n, hn⟩ : Fin 15) (0 : Fin 1)) ?_).trans (broadcastInDim_apply _ _ _ _ (at15 n hn) ?_)
    · intro a
      match a with
      | 0 => rfl
      | 1 => rfl
    · intro a
      obtain rfl : a = 0 := Subsingleton.elim _ _
      rfl
  have elo : extractStridedSlice S15 ![0] (Ref.edges : Vec Ideal S16 .f32) slices_S16_S15_0 (at15 n hn) = (((n : ℝ) / 15 : ℝ) : EReal) := by
    refine (edges_apply _).trans ?_
    show ((((0 + n : ℕ) : ℝ) / 15 : ℝ) : EReal) = _
    rw [zero_add]
  have ehi : extractStridedSlice S15 ![1] (Ref.edges : Vec Ideal S16 .f32) slices_S16_S15_1 (at15 n hn) = ((((n : ℝ) + 1) / 15 : ℝ) : EReal) := by
    refine (edges_apply _).trans ?_
    show ((((1 + n : ℕ) : ℝ) / 15 : ℝ) : EReal) = _
    rw [Nat.cast_add, Nat.cast_one, add_comm]
  unfold Ref.inBin
  rw [andi_at, cmpf_at, cmpf_at, hp, hq, hq, elo, ehi, conf_apply hx]
  simp only [Ideal.cmp, EReal.coe_lt_coe_iff, EReal.coe_le_coe_iff]
  have hiff := bin_iff (cfAt_ge R r.val) n
  by_cases h : bin (cfAt R r.val) = n
  · obtain ⟨h1, h2⟩ := hiff.mp h
    rw [decide_eq_true h1, decide_eq_true h2, decide_eq_true h]; rfl
  · rw [decide_eq_false h]
    by_cases h1 : (n : ℝ) / 15 < cfAt R r.val
    · rw [decide_eq_true h1, decide_eq_false fun h2 => h (hiff.mpr ⟨h1, h2⟩)]; rfl
    · rw [decide_eq_false h1]
      exact zero_andi _

omit hx in
/-- A sum over the rows of one bin. -/
theorem sumRows_apply (v : Vec Ideal S15x2000000 .f32) (n : ℕ) (hn : n < 15) (f : ℕ → EReal)
    (hv : ∀ r : Fin 2000000, v (ix2 (⟨n, hn⟩ : Fin 15) r) = f r.val) : Ref.sumRows v (at15 n hn) = ∑ r ∈ range 2000000, f r := by
  unfold Ref.sumRows
  rw [reduceAdd_at, Ideal.hostReduceAdd_r2_a1, Ideal.ofBits_zero_f32, zero_add, ← Fin.sum_univ_eq_sum_range f 2000000]
  exact sum_congr rfl fun r _ => hv r

/-- The count of bin `n` is the sum of the rows' contributions. -/
theorem count_apply (n : ℕ) (hn : n < 15) :
    Ref.sumRows (F := Ideal) (uitofp (F := Ideal) .f32 (Ref.inBin (Ref.conf x))) (at15 n hn) = ∑ r ∈ range 2000000, ctr R N 0 n r := by
  refine sumRows_apply _ n hn _ fun r => ?_
  rw [uitofp_at, inBin_apply hx]
  unfold ctr Row.val
  by_cases h : bin (cfAt R r.val) = n
  · simp [h]
  · simp [h]

/-- A number of each row, summed up over each bin's rows. -/
theorem sumIn_apply (y : Vec Ideal S2000000 .f32) (s n : ℕ) (hn : n < 15) (hy : ∀ r : Fin 2000000, y (row r) = Row.val R N s r.val) :
    Ref.sumIn (Ref.conf x) y (at15 n hn) = ∑ r ∈ range 2000000, ctr R N s n r := by
  unfold Ref.sumIn
  refine sumRows_apply _ n hn _ fun r => ?_
  have hp : ∀ c : Vec Ideal S2000000 .f32,
      broadcastInDim S15x2000000 ![1] bcast_S2000000_S15x2000000_1 c (ix2 (⟨n, hn⟩ : Fin 15) r) = c (row r) := by
    intro c
    refine broadcastInDim_apply _ _ _ _ (row r) fun a => ?_
    obtain rfl : a = 0 := Subsingleton.elim _ _
    rfl
  rw [select_at, hp, hp, hy, inBin_apply hx, spreadScalar_at _ _ _ 0 fun k => (const_at k _).trans Ideal.ofBits_zero_f32]
  unfold ctr
  by_cases h : bin (cfAt R r.val) = n
  · simp [h, Scalar.select]
  · simp [h, Scalar.select]

/-- So is its sum of confidences. -/
theorem sumConf_apply (n : ℕ) (hn : n < 15) :
    Ref.sumIn (Ref.conf x) (Ref.conf x) (at15 n hn) = ∑ r ∈ range 2000000, ctr R N 1 n r :=
  sumIn_apply hx _ 1 n hn fun r => conf_apply hx r

include hb in
/-- So is its sum of hits. -/
theorem sumHit_apply (n : ℕ) (hn : n < 15) :
    Ref.sumIn (Ref.conf x) (Ref.hit x b) (at15 n hn) = ∑ r ∈ range 2000000, ctr R N 2 n r :=
  sumIn_apply hx _ 2 n hn fun r => by
    unfold Ref.hit
    rw [uitofp_at, cmpi_at, pred_apply hx, hb]
    unfold Row.val
    by_cases h : guessAt R r.val = N r.val
    · simp [h, IntOp.cmpi]
    · simp [h, IntOp.cmpi, beq_eq_false_iff_ne.mpr h]

end Rows

end Cert.Proof.RefVal

end
-- ==== Proof.Value.lean ====
/-
  The two programs' results are equal for finite logits: the logits' precondition read off (`real_of_pre`), the kernel's
  accesses within their arrays (`tileOk`), and the kernel's result the reference's (`finish_eq`).
-/
module

public import proofs.«01_k».proof.Proof.KernelValue
public import proofs.«01_k».proof.Proof.RefValue
public import proofs.«01_k».proof.Proof.Launch
public import proofs.«01_k».proof.Proof.Gen.Pre_finite_logits
public import Idealize.ShloMosaic.Lib.ReduceAll

@[expose] public section

noncomputable section

namespace Cert.Proof.Value

open Cert.ReferenceIdeal Cert.ReferenceIdeal.Gen Cert.Proof.Row Cert.Proof.RefVal Idealize.ShloMosaic Finset

/-! ## The precondition -/

/-- The word of infinity. -/
theorem ofBits_inf : Ideal.ofBits .f32 0x7F800000#32 = ⊤ := by simp [Ideal.ofBits, Ideal.ieee]

/-- A number whose size is below infinity is real. -/
theorem real_of_abs_lt (a : EReal) (h : Ideal.cmp .olt (max a (-a)) ⊤ = 1#1) : a = ((a.toReal : ℝ) : EReal) := by
  have h' : max a (-a) < ⊤ := by
    by_contra hn
    have : Ideal.cmp .olt (max a (-a)) ⊤ = 0#1 := by simp only [Ideal.cmp, decide_eq_false hn]; rfl
    rw [this] at h
    exact absurd h (by decide)
  have h1 : a ≠ ⊤ := (lt_of_le_of_lt (le_max_left _ _) h').ne
  have h2 : a ≠ ⊥ := by
    intro e
    rw [e, EReal.neg_bot] at h'
    exact absurd (lt_of_le_of_lt (le_max_right _ _) h') (lt_irrefl _)
  exact (EReal.coe_toReal h1 h2).symm

instance : Subsingleton S_.Idx := ⟨fun a b => funext fun i => i.elim0⟩

/-- The size of an element. -/
theorem absf_at {s : Shape} (a : Vec Ideal s .f32) (i : s.Idx) : (Host.absf (F := Ideal) (φ := .f32) a : Vec Ideal s .f32) i = (max (a i) (-(a i)) : EReal) := rfl

/-- Finite logits are real numbers. -/
theorem real_of_pre (x : Vec Ideal S2000000x3 .f32) (b : IVec S2000000 32) (h : Cert.Pre_finite_logits.fn (F := Ideal) x b = fun _ => 1#1)
    (i : S2000000x3.Idx) : x i = (((x i : EReal).toReal : ℝ) : EReal) := by
  unfold Cert.Pre_finite_logits.fn at h
  have h1 := Host.reduce_andi_all _ _ _ _ (fun a : Fin 0 => a.elim0) (congrFun h _) i
  rw [cmpf_at, absf_at] at h1
  have hc := spreadScalar_at i Cert.Pre_finite_logits.Gen.bcast_S_S2000000x3 (constant (F := Ideal) Cert.Pre_finite_logits.S_ .f32 0x7F800000#32) ⊤
    fun k => (const_at k _).trans ofBits_inf
  exact real_of_abs_lt _ ((congrArg (Ideal.cmp .olt (max (x i : EReal) (-(x i : EReal)))) hc).symm.trans h1)

/-! ## The arguments as sequences -/

section Args

variable (x : Vec Ideal S2000000x3 .f32) (b : IVec S2000000 32)

/-- The `k`-th logit, in the rows' order. -/
def realOf (k : ℕ) : ℝ := if h : k < 6000000 then (x (ix2 (⟨k / 3, by omega⟩ : Fin 2000000) (⟨k % 3, by omega⟩ : Fin 3)) : EReal).toReal else 0

/-- The `r`-th label. -/
def labelOf (r : ℕ) : BitVec 32 := if h : r < 2000000 then b (row (⟨r, h⟩ : Fin 2000000)) else 0

variable (hx : ∀ i, x i = (((x i : EReal).toReal : ℝ) : EReal))

include hx in
/-- Finite logits as a sequence of real numbers. -/
theorem logits_apply (r : Fin 2000000) (k : Fin 3) : x (ix2 r k) = ((realOf x (3 * r.val + k.val) : ℝ) : EReal) := by
  have hr := r.isLt
  have hk := k.isLt
  unfold realOf
  rw [dif_pos (by omega)]
  have e1 : (⟨(3 * r.val + k.val) / 3, by omega⟩ : Fin 2000000) = r := Fin.ext (by show (3 * r.val + k.val) / 3 = r.val; omega)
  have e2 : (⟨(3 * r.val + k.val) % 3, by omega⟩ : Fin 3) = k := Fin.ext (by show (3 * r.val + k.val) % 3 = k.val; omega)
  rw [e1, e2]
  exact hx _

/-- The labels as a sequence. -/
theorem labels_apply (r : Fin 2000000) : b (row r) = labelOf b r.val := by
  unfold labelOf
  rw [dif_pos r.isLt]

/-- An array of rows of three, in one row. -/
theorem flat_at {n m : ℕ} (y : Vec Ideal ⟨2, ![n, 3]⟩ .f32) (h : (⟨2, ![n, 3]⟩ : Shape).ShapeCasts ⟨1, ![m]⟩) (j : (⟨1, ![m]⟩ : Shape).Idx)
    (r : Fin n) (k : Fin 3) (e : (j 0).val = 3 * r.val + k.val) : shapeCast ⟨1, ![m]⟩ y h j = y (ix2 r k) := by
  refine shapeCast_apply y h j (ix2 r k) ?_
  rw [Shape.rowMajor_val_two, Shape.rowMajor_val_one]
  show r.val * 3 + k.val = (j 0).val
  omega

include hx in
/-- The logits in one row, as the sequence. -/
theorem flat_apply (j : Cert.KernelIdeal.S6000000.Idx) : Tile.flat (F := Ideal) x j = ((realOf x (j 0).val : ℝ) : EReal) := by
  have hj : (j 0).val < 6000000 := (j 0).isLt
  unfold Tile.flat
  rw [flat_at x _ j (⟨(j 0).val / 3, by omega⟩ : Fin 2000000) (⟨(j 0).val % 3, by omega⟩ : Fin 3)
    (by show (j 0).val = 3 * ((j 0).val / 3) + (j 0).val % 3; omega), logits_apply x hx]
  congr 2
  show 3 * ((j 0).val / 3) + (j 0).val % 3 = (j 0).val
  omega

/-- The labels at any index. -/
theorem labels_at (j : S2000000.Idx) : b j = labelOf b (j 0).val := by
  obtain ⟨r, rfl⟩ : ∃ r : Fin 2000000, row r = j := ⟨j 0, funext fun a => by obtain rfl : a = 0 := Subsingleton.elim _ _; rfl⟩
  exact labels_apply b r

/-! ## The kernel's sums are the reference's -/

/-- Row `s` of a three-row array, as a vector. -/
theorem row_at (p : Vec Ideal Cert.KernelIdeal.S3x15 .f32) (s n : ℕ) (hs : s < 3) (hn : n < 15)
    (h : Cert.KernelIdeal.S3x15.Slices ![s, 0] Cert.KernelIdeal.S1x15) (hc : Cert.KernelIdeal.S1x15.ShapeCasts Cert.KernelIdeal.S15) :
    shapeCast Cert.KernelIdeal.S15 (extractStridedSlice Cert.KernelIdeal.S1x15 ![s, 0] p h) hc (at15 n hn) = p (at3x15 s n hs hn) := by
  rw [shapeCast_apply _ hc (at15 n hn) (ix2 (0 : Fin 1) (⟨n, hn⟩ : Fin 15)) (by
    rw [Shape.rowMajor_val_two, Shape.rowMajor_val_one]
    show 0 * 15 + n = n
    omega)]
  unfold extractStridedSlice
  refine congrArg p (funext fun a => ?_)
  match a with
  | 0 => exact Fin.ext (by show s + 0 = s; omega)
  | 1 => exact Fin.ext (by show 0 + n = n; omega)

/-- A vector of 15 numbers is known by its elements. -/
theorem ext15 (u v : Vec Ideal S15 .f32) (h : ∀ n hn, u (at15 n hn) = v (at15 n hn)) : u = v := by
  funext j
  have e : at15 (j 0).val (j 0).isLt = j := funext fun a => by obtain rfl : a = 0 := Subsingleton.elim _ _; rfl
  rw [← e]
  exact h _ _

include hx in
/-- The kernel's result is the reference's. -/
theorem finish_eq : Tile.finish (Step.parts (Tile.flat (F := Ideal) x) b Ref.edges) = Ref.ece (F := Ideal) x b := by
  have hL := flat_apply x hx
  have hB := labels_at b
  have hbt := edges_apply
  have hx' := logits_apply x hx
  have hb' := labels_apply b
  have e0 := ext15 _ _ fun n hn => (row_at (Tile.sums (Step.parts (Tile.flat (F := Ideal) x) b Ref.edges)) 0 n (by omega) hn
    Cert.KernelIdeal.Gen.slices_S3x15_S1x15_0_0 Cert.KernelIdeal.Gen.shapeCasts_S1x15_S15).trans
      ((sums_parts hL hB hbt 0 n _ hn).trans (count_apply hx' n hn).symm)
  have e1 := ext15 _ _ fun n hn => (row_at (Tile.sums (Step.parts (Tile.flat (F := Ideal) x) b Ref.edges)) 1 n (by omega) hn
    Cert.KernelIdeal.Gen.slices_S3x15_S1x15_1_0 Cert.KernelIdeal.Gen.shapeCasts_S1x15_S15).trans
      ((sums_parts hL hB hbt 1 n _ hn).trans (sumConf_apply hx' n hn).symm)
  have e2 := ext15 _ _ fun n hn => (row_at (Tile.sums (Step.parts (Tile.flat (F := Ideal) x) b Ref.edges)) 2 n (by omega) hn
    Cert.KernelIdeal.Gen.slices_S3x15_S1x15_2_0 Cert.KernelIdeal.Gen.shapeCasts_S1x15_S15).trans
      ((sums_parts hL hB hbt 2 n _ hn).trans (sumHit_apply hx' hb' n hn).symm)
  unfold Tile.finish Ref.ece
  rw [e0, e1, e2]

include hx in
/-- The kernel's gathers and scatters stay within their arrays. -/
theorem tileOk (i : Cert.KernelIdeal.grid0.Coords) : Step.TileOk i (Tile.flat (F := Ideal) x) Ref.edges :=
  tileOk_of_real (flat_apply x hx) edges_apply i

end Args
end Cert.Proof.Value

end
-- ==== Proof.lean ====
/-
  The proof of `Cert.Claim`: the claims of `Defs.lean`, put together from the kernel's run (Proof/Launch.lean), the
  reference's run (Proof/RefRun.lean) and the equality of their results (Proof/Value.lean).
-/
module

public import proofs.«01_k».proof.Defs
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_finite_logits
public import proofs.«01_k».proof.Proof.Launch
public import proofs.«01_k».proof.Proof.RefRun
public import proofs.«01_k».proof.Proof.Value
public import Idealize.ShloMosaic.Lib.StableHlo.RunHlo
public import Idealize.ShloMosaic.Lib.Quiescent

@[expose] public section

noncomputable section

namespace Cert.Proof

open Idealize.ShloMosaic Idealize.SL.Sem

/-- Under the precondition every subcore's accesses stay within their arrays. -/
theorem preOK (m : (ℓ : Loc Cert.KernelIdeal.nD Cert.KernelIdeal.τ Cert.KernelIdeal.sig) → Buf (Elt Ideal) ℓ)
    (h : Cert.Pre_KernelIdeal m) : Tile.PreOK m := fun d i =>
  Value.tileOk (m (Tile.aLoc d)) (Value.real_of_pre _ _ (h d)) i

/-- The kernel runs, its arguments end unchanged and every counter ends at zero. -/
theorem frame_kernel : Cert.quiescent_KernelIdeal := fun m g h =>
  θ_run_mono (Tile.run_main m g (preOK m h)) fun _ hr => ⟨fun c => (hr.1 c).2, hr.2⟩

/-- The reference runs, its arguments end unchanged and every counter ends at zero. -/
theorem frame_reference : Cert.quiescent_ReferenceIdeal := fun m g _ =>
  θ_run_mono (Ref.run m g) fun r hr => ⟨fun c => (hr c).2, sem_eq_zero_of_no_sems rfl r.2⟩

/-- The same, where the logits are finite. -/
theorem frame_reference_finite : Cert.quiescent_ReferenceIdeal_pre_finite_logits := fun m g _ => frame_reference m g trivial

/-- The kernel's result is the reference's. -/
theorem equal_results : Cert.algebraic_KernelIdeal_ReferenceIdeal := fun m g m' g' h hm =>
  ⟨fun c => Ref.ece (F := Ideal) (m (Tile.aLoc c)) (m (Tile.bLoc c)),
    θ_run_mono (Tile.run_main m g (preOK m h)) fun _ hr c =>
      ⟨(hr.1 c).1.trans (Value.finish_eq _ _ (Value.real_of_pre _ _ (h c))), (hr.1 c).2⟩,
    θ_run_mono (Ref.run m' g') fun _ hr c =>
      ⟨(hr c).1.trans (congrArg₂ (Ref.ece (F := Ideal)) (hm c).1 (hm c).2), (hr c).2⟩⟩

theorem claim : Cert.Claim :=
  ⟨Cert.KernelIdeal.Gen.facts, Cert.ReferenceIdeal.Gen.facts, Cert.Pre_finite_logits.Gen.facts,
    frame_kernel, frame_reference, frame_reference_finite, equal_results⟩

end Cert.Proof

end
